-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_guards_idle [hPre_guards_idle : Cert.Pre_guards_idle.Facts] (m : (ℓ : Loc Cert.KernelIdeal.nD Cert.KernelIdeal.τ Cert.KernelIdeal.sig) → Buf (Elt Ideal) ℓ) : Prop :=
  ∀ c : Dev Cert.KernelIdeal.nD,
    (Cert.Pre_guards_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_guards_idle [hPre_guards_idle : Cert.Pre_guards_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_guards_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_guards_idle [hKernelIdeal : Cert.KernelIdeal.Facts] [hPre_guards_idle : Cert.Pre_guards_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_guards_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_guards_idle [hReferenceIdeal : Cert.ReferenceIdeal.Facts] [hPre_guards_idle : Cert.Pre_guards_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_guards_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_guards_idle [hKernelIdeal : Cert.KernelIdeal.Facts] [hReferenceIdeal : Cert.ReferenceIdeal.Facts] [hPre_guards_idle : Cert.Pre_guards_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_guards_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_guards_idle : Cert.Pre_guards_idle.Facts),
    quiescent_Kernel (hKernel := hKernel)
    ∧ quiescent_KernelIdeal (hKernelIdeal := hKernelIdeal)
    ∧ quiescent_KernelIdeal_pre_guards_idle (hKernelIdeal := hKernelIdeal) (hPre_guards_idle := hPre_guards_idle)
    ∧ quiescent_ReferenceIdeal (hReferenceIdeal := hReferenceIdeal)
    ∧ quiescent_ReferenceIdeal_pre_guards_idle (hReferenceIdeal := hReferenceIdeal) (hPre_guards_idle := hPre_guards_idle)
    ∧ preserves_Kernel_KernelIdeal
    ∧ algebraic_KernelIdeal_ReferenceIdeal_pre_guards_idle (hKernelIdeal := hKernelIdeal) (hReferenceIdeal := hReferenceIdeal) (hPre_guards_idle := hPre_guards_idle)
-- ==== Pre_guards_idle.lean ====
abbrev S8x1x256 : Shape := ⟨3, ![8, 1, 256]⟩
abbrev S256x16384 : Shape := ⟨2, ![256, 16384]⟩
abbrev S_ : Shape := ⟨0, ![]⟩
abbrev S16384 : Shape := ⟨1, ![16384]⟩
abbrev S8x1 : Shape := ⟨2, ![8, 1]⟩
abbrev S1x1x256 : Shape := ⟨3, ![1, 1, 256]⟩
abbrev S1x256 : Shape := ⟨2, ![1, 256]⟩
abbrev S1x16384 : Shape := ⟨2, ![1, 16384]⟩
abbrev S1 : Shape := ⟨1, ![1]⟩
abbrev S1x1 : Shape := ⟨2, ![1, 1]⟩
abbrev S256 : Shape := ⟨1, ![256]⟩
abbrev S16384x256 : Shape := ⟨2, ![16384, 256]⟩
abbrev S256x1 : Shape := ⟨2, ![256, 1]⟩

class Facts : Prop where
  bcast_S_S16384 : S_.BroadcastsInDim S16384 (![] : Fin 0 → Fin S16384.rank)
  bcast_S_S8x1x256 : S_.BroadcastsInDim S8x1x256 (![] : Fin 0 → Fin S8x1x256.rank)
  reducesTo_S8x1x256_S_d0_1_2 : S8x1x256.ReducesTo [0, 1, 2] S_
  h_S_ : 0 < S_.numel
  bcast_S_S256x16384 : S_.BroadcastsInDim S256x16384 (![] : Fin 0 → Fin S256x16384.rank)
  reducesTo_S256x16384_S_d0_1 : S256x16384.ReducesTo [0, 1] S_
  reducesTo_S8x1x256_S8x1_d2 : S8x1x256.ReducesTo [2] S8x1
  bcast_S_S8x1 : S_.BroadcastsInDim S8x1 (![] : Fin 0 → Fin S8x1.rank)
  reducesTo_S8x1_S_d0_1 : S8x1.ReducesTo [0, 1] S_
  reducesTo_S256x16384_S16384_d0 : S256x16384.ReducesTo [0] S16384
  reducesTo_S16384_S_d0 : S16384.ReducesTo [0] S_
  slices_S8x1x256_S1x1x256_0_0_0 : S8x1x256.Slices ![0, 0, 0] S1x1x256
  shapeCasts_S1x1x256_S1x256 : S1x1x256.ShapeCasts S1x256
  reducesTo_S1x256_S1_d1 : S1x256.ReducesTo [1] S1
  bcast_S1_S1x1_0 : S1.BroadcastsInDim S1x1 (![0] : Fin 1 → Fin S1x1.rank)
  bcast_S16384_S1x16384_1 : S16384.BroadcastsInDim S1x16384 (![1] : Fin 1 → Fin S1x16384.rank)
  bcast_S1x1_S1x16384_0_1 : S1x1.BroadcastsInDim S1x16384 (![0, 1] : Fin 2 → Fin S1x16384.rank)
  reducesTo_S1x16384_S1_d1 : S1x16384.ReducesTo [1] S1
  bcast_S_S1 : S_.BroadcastsInDim S1 (![] : Fin 0 → Fin S1.rank)
  shapeCasts_S1x16384_S16384 : S1x16384.ShapeCasts S16384
  bcast_S_S256 : S_.BroadcastsInDim S256 (![] : Fin 0 → Fin S256.rank)
  transposes_S256x16384_S16384x256_1_0 : S256x16384.Transposes [1, 0] S16384x256
  bcast_S256_S1x256_1 : S256.BroadcastsInDim S1x256 (![1] : Fin 1 → Fin S1x256.rank)
  transposes_S1x256_S256x1_1_0 : S1x256.Transposes [1, 0] S256x1
  slices_S8x1x256_S1x1x256_1_0_0 : S8x1x256.Slices ![1, 0, 0] S1x1x256
  slices_S8x1x256_S1x1x256_2_0_0 : S8x1x256.Slices ![2, 0, 0] S1x1x256
  slices_S8x1x256_S1x1x256_3_0_0 : S8x1x256.Slices ![3, 0, 0] S1x1x256
  slices_S8x1x256_S1x1x256_4_0_0 : S8x1x256.Slices ![4, 0, 0] S1x1x256
  slices_S8x1x256_S1x1x256_5_0_0 : S8x1x256.Slices ![5, 0, 0] S1x1x256
  slices_S8x1x256_S1x1x256_6_0_0 : S8x1x256.Slices ![6, 0, 0] S1x1x256
  slices_S8x1x256_S1x1x256_7_0_0 : S8x1x256.Slices ![7, 0, 0] S1x1x256
  dot_S1x256_S256x16384_S1x16384_1_0_0_1_n_n_wf : DotDims.WF S1x256 S256x16384 S1x16384 [1] [0] [0] [1] [] []
  scatter_S256x16384_S1_S256_0_1_1_0_wf : ScatterDims.WF S256x16384 S1 S256 [0] [1] [1] 0
  scatter_S16384_S1_S__n_0_0_0_wf : ScatterDims.WF S16384 S1 S_ [] [0] [0] 0
  dot_S16384_S16384x256_S256_0_0_n_1_n_n_wf : DotDims.WF S16384 S16384x256 S256 [0] [0] [] [1] [] []
  dot_S256x1_S1x16384_S256x16384_1_0_0_1_n_n_wf : DotDims.WF S256x1 S1x16384 S256x16384 [1] [0] [0] [1] [] []

variable [Facts]

variable {F : FTy → Type} [FloatOps F]
def dot_S1x256_S256x16384_S1x16384_1_0_0_1_n_n : DotDims S1x256 S256x16384 S1x16384 where
  lhsContracting := [1]
  rhsContracting := [0]
  lhsNonContracting := [0]
  rhsNonContracting := [1]
  lhsBatch := []
  rhsBatch := []
  wf := dot_S1x256_S256x16384_S1x16384_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S256x16384_S1_S256_0_1_1_0 : ScatterDims S256x16384 S1 S256 where
  updateWindowDims := [0]
  insertedWindowDims := [1]
  scatterDimsToOperandDims := [1]
  indexVectorDim := 0
  wf := scatter_S256x16384_S1_S256_0_1_1_0_wf
def scatter_S16384_S1_S__n_0_0_0 : ScatterDims S16384 S1 S_ where
  updateWindowDims := []
  insertedWindowDims := [0]
  scatterDimsToOperandDims := [0]
  indexVectorDim := 0
  wf := scatter_S16384_S1_S__n_0_0_0_wf
def dot_S16384_S16384x256_S256_0_0_n_1_n_n : DotDims S16384 S16384x256 S256 where
  lhsContracting := [0]
  rhsContracting := [0]
  lhsNonContracting := []
  rhsNonContracting := [1]
  lhsBatch := []
  rhsBatch := []
  wf := dot_S16384_S16384x256_S256_0_0_n_1_n_n_wf
def dot_S256x1_S1x16384_S256x16384_1_0_0_1_n_n : DotDims S256x1 S1x16384 S256x16384 where
  lhsContracting := [1]
  rhsContracting := [0]
  lhsNonContracting := [0]
  rhsNonContracting := [1]
  lhsBatch := []
  rhsBatch := []
  wf := dot_S256x1_S1x16384_S256x16384_1_0_0_1_n_n_wf

def fn_norm {F : FTy → Type} [FloatOps F] (arg0 : FVec F S1x256 .f32) : FVec F S1x1 .f32 :=
  let v0 : FVec F S1x256 .f32 := mulf arg0 arg0
  let cst : FVec F S_ .f32 := constant S_ .f32 0x00000000#32
  let v1 : FVec F S1 .f32 := (fun x v => Host.reduceAdd x v reducesTo_S1x256_S1_d1 h_S_) v0 cst
  let v2 : FVec F S1x1 .f32 := broadcastInDim S1x1 ![0] bcast_S1_S1x1_0 v1
  let v3 : FVec F S1x1 .f32 := Host.sqrt v2
  v3

def fn_norm_0 {F : FTy → Type} [FloatOps F] (arg0 : FVec F S256x16384 .f32) : FVec F S1x16384 .f32 :=
  let v0 : FVec F S256x16384 .f32 := mulf arg0 arg0
  let cst : FVec F S_ .f32 := constant S_ .f32 0x00000000#32
  let v1 : FVec F S16384 .f32 := (fun x v => Host.reduceAdd x v reducesTo_S256x16384_S16384_d0 h_S_) v0 cst
  let v2 : FVec F S1x16384 .f32 := broadcastInDim S1x16384 ![1] bcast_S16384_S1x16384_1 v1
  let v3 : FVec F S1x16384 .f32 := Host.sqrt v2
  v3

def fn_argmin {F : FTy → Type} [FloatOps F] (arg0 : FVec F S16384 .f32) : IVec S_ 32 :=
  let v0 : IVec S16384 32 := iotaInDim S16384 32 0
  let cst : FVec F S_ .f32 := constant S_ .f32 0x7F800000#32
  let c : IVec S_ 32 := constantI S_ 32 0#32
  let v1_0 : FVec F S_ .f32 := (fun x y u v j => (Host.argReduce reducer_argmin_f32_i32 x y u v reducesTo_S16384_S_d0 h_S_ j).1) arg0 v0 cst c
  let v1_1 : IVec S_ 32 := (fun x y u v j => (Host.argReduce reducer_argmin_f32_i32 x y u v reducesTo_S16384_S_d0 h_S_ j).2) arg0 v0 cst c
  v1_1

def fn_step_part2 {F : FTy → Type} [FloatOps F] (arg3 : FVec F S16384 .f32) (arg4 : FVec F S1x256 .f32) (v17 : FVec F S16384 .f32) (v24 : FVec F S256x16384 .f32) (v28 : FVec F S16384 .f32) (v32 : FVec F S_ .f32) (v35 : FVec F S_ .f32) (cst_9 : FVec F S_ .f32) : FVec F S256x16384 .f32 × FVec F S16384 .f32 × FVec F S16384 .f32 × FVec F S16384 .f32 × FVec F S1x256 .f32 :=
  let v36 : FVec F S_ .f32 := subf cst_9 v32
  let v37 : FVec F S16384 .f32 := broadcastInDim S16384 ![] bcast_S_S16384 v36
  let v38 : FVec F S16384 .f32 := mulf v37 arg3
  let v39 : FVec F S16384 .f32 := broadcastInDim S16384 ![] bcast_S_S16384 v35
  let v40 : FVec F S16384 .f32 := addf v39 v38
  let v41 : IVec S_ 32 := fn_argmin (F := F) v28
  let cst_10 : FVec F S_ .f32 := constant S_ .f32 0x00000000#32
  let v42 : FVec F S16384 .f32 := broadcastInDim S16384 ![] bcast_S_S16384 cst_10
  let c_11 : IVec S_ 32 := constantI S_ 32 0#32
  let v43 : IVec S_ 1 := cmpi .slt v41 c_11
  let c_12 : IVec S_ 32 := constantI S_ 32 16384#32
  let v44 : IVec S_ 32 := addi v41 c_12
  let v45 : IVec S_ 32 := select v43 v44 v41
  let v46 : IVec S1 32 := broadcastInDim S1 ![] bcast_S_S1 v45
  let cst_13 : FVec F S_ .f32 := constant S_ .f32 0x3F800000#32
  let v47 : FVec F S16384 .f32 := (fun x i u => Host.scatter scatter_S16384_S1_S__n_0_0_0 (fun _ b => b) x i u) v42 v46 cst_13
  let v48 : FVec F S16384x256 .f32 := (transpose S16384x256 [1, 0] · transposes_S256x16384_S16384x256_1_0) v24
  let v49 : FVec F S256 .f32 := (fun l r => Host.dotGeneral dot_S16384_S16384x256_S256_0_0_n_1_n_n none l r) v17 v48
  let v50 : FVec F S1x256 .f32 := broadcastInDim S1x256 ![1] bcast_S256_S1x256_1 v49
  let v51 : FVec F S256x1 .f32 := (transpose S256x1 [1, 0] · transposes_S1x256_S256x1_1_0) arg4
  let v52 : FVec F S1x16384 .f32 := broadcastInDim S1x16384 ![1] bcast_S16384_S1x16384_1 v40
  let v53 : FVec F S256x16384 .f32 := (fun l r => Host.dotGeneral dot_S256x1_S1x16384_S256x16384_1_0_0_1_n_n none l r) v51 v52
  let v54 : FVec F S256x16384 .f32 := addf v24 v53
  (v54, v28, v40, v47, v50)

def fn_step_part1 {F : FTy → Type} [FloatOps F] (arg0 : FVec F S256x16384 .f32) (arg1 : FVec F S16384 .f32) (arg2 : FVec F S16384 .f32) (arg3 : FVec F S16384 .f32) (arg4 : FVec F S1x256 .f32) (arg5 : FVec F S_ .f32) (v17 : FVec F S16384 .f32) (v18 : IVec S_ 32) (v19 : IVec S_ 1) : FVec F S256x16384 .f32 × FVec F S16384 .f32 × FVec F S16384 .f32 × FVec F S16384 .f32 × FVec F S1x256 .f32 :=
  let c_2 : IVec S_ 32 := constantI S_ 32 16384#32
  let v20 : IVec S_ 32 := addi v18 c_2
  let v21 : IVec S_ 32 := select v19 v20 v18
  let v22 : IVec S1 32 := broadcastInDim S1 ![] bcast_S_S1 v21
  let cst_3 : FVec F S_ .f32 := constant S_ .f32 0x00000000#32
  let v23 : FVec F S256 .f32 := broadcastInDim S256 ![] bcast_S_S256 cst_3
  let v24 : FVec F S256x16384 .f32 := (fun x i u => Host.scatter scatter_S256x16384_S1_S256_0_1_1_0 (fun _ b => b) x i u) arg0 v22 v23
  let cst_4 : FVec F S_ .f32 := constant S_ .f32 0x3F733333#32
  let v25 : FVec F S16384 .f32 := broadcastInDim S16384 ![] bcast_S_S16384 cst_4
  let v26 : FVec F S16384 .f32 := mulf v25 arg1
  let v27 : FVec F S16384 .f32 := addf v26 v17
  let v28 : FVec F S16384 .f32 := addf v27 arg2
  let v29 : FVec F S_ .f32 := Host.negf arg5
  let v30 : FVec F S_ .f32 := Host.exp v29
  let cst_5 : FVec F S_ .f32 := constant S_ .f32 0x3F800000#32
  let v31 : FVec F S_ .f32 := addf cst_5 v30
  let cst_6 : FVec F S_ .f32 := constant S_ .f32 0x3F800000#32
  let v32 : FVec F S_ .f32 := Host.divf cst_6 v31
  let cst_7 : FVec F S_ .f32 := constant S_ .f32 0x00000000#32
  let v33 : FVec F S_ .f32 := (fun x v => Host.reduceAdd x v reducesTo_S16384_S_d0 h_S_) v17 cst_7
  let cst_8 : FVec F S_ .f32 := constant S_ .f32 0x46800000#32
  let v34 : FVec F S_ .f32 := Host.divf v33 cst_8
  let v35 : FVec F S_ .f32 := mulf v32 v34
  let cst_9 : FVec F S_ .f32 := constant S_ .f32 0x3F800000#32
  fn_step_part2 (F := F) arg3 arg4 v17 v24 v28 v32 v35 cst_9

def fn_step {F : FTy → Type} [FloatOps F] (arg0 : FVec F S256x16384 .f32) (arg1 : FVec F S16384 .f32) (arg2 : FVec F S16384 .f32) (arg3 : FVec F S16384 .f32) (arg4 : FVec F S1x256 .f32) (arg5 : FVec F S_ .f32) : FVec F S256x16384 .f32 × FVec F S16384 .f32 × FVec F S16384 .f32 × FVec F S16384 .f32 × FVec F S1x256 .f32 :=
  let v0 : FVec F S1x16384 .f32 := (fun l r => Host.dotGeneral dot_S1x256_S256x16384_S1x16384_1_0_0_1_n_n none l r) arg4 arg0
  let v1 : FVec F S1x1 .f32 := fn_norm (F := F) arg4
  let v2 : FVec F S1x16384 .f32 := fn_norm_0 (F := F) arg0
  let v3 : FVec F S1x16384 .f32 := broadcastInDim S1x16384 ![0, 1] bcast_S1x1_S1x16384_0_1 v1
  let v4 : FVec F S1x16384 .f32 := mulf v3 v2
  let v5 : FVec F S1x16384 .f32 := Host.divf v0 v4
  let cst : FVec F S_ .f32 := constant S_ .f32 0xFF800000#32
  let v6 : FVec F S1 .f32 := (fun x v => Host.reduce FloatOps.maximumf x v reducesTo_S1x16384_S1_d1 h_S_) v5 cst
  let cst_0 : FVec F S_ .f32 := constant S_ .f32 0xFF800000#32
  let v7 : FVec F S1 .f32 := broadcastInDim S1 ![] bcast_S_S1 cst_0
  let v8 : FVec F S1 .f32 := maximumf v7 v6
  let v9 : FVec F S1x1 .f32 := broadcastInDim S1x1 ![0] bcast_S1_S1x1_0 v8
  let v10 : FVec F S1x16384 .f32 := broadcastInDim S1x16384 ![0, 1] bcast_S1x1_S1x16384_0_1 v9
  let v11 : FVec F S1x16384 .f32 := subf v5 v10
  let v12 : FVec F S1x16384 .f32 := Host.exp v11
  let cst_1 : FVec F S_ .f32 := constant S_ .f32 0x00000000#32
  let v13 : FVec F S1 .f32 := (fun x v => Host.reduceAdd x v reducesTo_S1x16384_S1_d1 h_S_) v12 cst_1
  let v14 : FVec F S1x1 .f32 := broadcastInDim S1x1 ![0] bcast_S1_S1x1_0 v13
  let v15 : FVec F S1x16384 .f32 := broadcastInDim S1x16384 ![0, 1] bcast_S1x1_S1x16384_0_1 v14
  let v16 : FVec F S1x16384 .f32 := Host.divf v12 v15
  let v17 : FVec F S16384 .f32 := shapeCast S16384 v16 shapeCasts_S1x16384_S16384
  let v18 : IVec S_ 32 := fn_argmin (F := F) arg1
  let c : IVec S_ 32 := constantI S_ 32 0#32
  let v19 : IVec S_ 1 := cmpi .slt v18 c
  fn_step_part1 (F := F) arg0 arg1 arg2 arg3 arg4 arg5 v17 v18 v19

def fn_norm_2 {F : FTy → Type} [FloatOps F] (arg0 : FVec F S256x16384 .f32) : FVec F S1x16384 .f32 :=
  let v0 : FVec F S256x16384 .f32 := mulf arg0 arg0
  let cst : FVec F S_ .f32 := constant S_ .f32 0x00000000#32
  let v1 : FVec F S16384 .f32 := (fun x v => Host.reduceAdd x v reducesTo_S256x16384_S16384_d0 h_S_) v0 cst
  let v2 : FVec F S1x16384 .f32 := broadcastInDim S1x16384 ![1] bcast_S16384_S1x16384_1 v1
  let v3 : FVec F S1x16384 .f32 := Host.sqrt v2
  v3

def fn_step_1_part2 {F : FTy → Type} [FloatOps F] (arg3 : FVec F S16384 .f32) (arg4 : FVec F S1x256 .f32) (v17 : FVec F S16384 .f32) (v24 : FVec F S256x16384 .f32) (v28 : FVec F S16384 .f32) (v32 : FVec F S_ .f32) (v35 : FVec F S_ .f32) (cst_9 : FVec F S_ .f32) : FVec F S256x16384 .f32 × FVec F S16384 .f32 × FVec F S16384 .f32 × FVec F S16384 .f32 × FVec F S1x256 .f32 :=
  let v36 : FVec F S_ .f32 := subf cst_9 v32
  let v37 : FVec F S16384 .f32 := broadcastInDim S16384 ![] bcast_S_S16384 v36
  let v38 : FVec F S16384 .f32 := mulf v37 arg3
  let v39 : FVec F S16384 .f32 := broadcastInDim S16384 ![] bcast_S_S16384 v35
  let v40 : FVec F S16384 .f32 := addf v39 v38
  let v41 : IVec S_ 32 := fn_argmin (F := F) v28
  let cst_10 : FVec F S_ .f32 := constant S_ .f32 0x00000000#32
  let v42 : FVec F S16384 .f32 := broadcastInDim S16384 ![] bcast_S_S16384 cst_10
  let c_11 : IVec S_ 32 := constantI S_ 32 0#32
  let v43 : IVec S_ 1 := cmpi .slt v41 c_11
  let c_12 : IVec S_ 32 := constantI S_ 32 16384#32
  let v44 : IVec S_ 32 := addi v41 c_12
  let v45 : IVec S_ 32 := select v43 v44 v41
  let v46 : IVec S1 32 := broadcastInDim S1 ![] bcast_S_S1 v45
  let cst_13 : FVec F S_ .f32 := constant S_ .f32 0x3F800000#32
  let v47 : FVec F S16384 .f32 := (fun x i u => Host.scatter scatter_S16384_S1_S__n_0_0_0 (fun _ b => b) x i u) v42 v46 cst_13
  let v48 : FVec F S16384x256 .f32 := (transpose S16384x256 [1, 0] · transposes_S256x16384_S16384x256_1_0) v24
  let v49 : FVec F S256 .f32 := (fun l r => Host.dotGeneral dot_S16384_S16384x256_S256_0_0_n_1_n_n none l r) v17 v48
  let v50 : FVec F S1x256 .f32 := broadcastInDim S1x256 ![1] bcast_S256_S1x256_1 v49
  let v51 : FVec F S256x1 .f32 := (transpose S256x1 [1, 0] · transposes_S1x256_S256x1_1_0) arg4
  let v52 : FVec F S1x16384 .f32 := broadcastInDim S1x16384 ![1] bcast_S16384_S1x16384_1 v40
  let v53 : FVec F S256x16384 .f32 := (fun l r => Host.dotGeneral dot_S256x1_S1x16384_S256x16384_1_0_0_1_n_n none l r) v51 v52
  let v54 : FVec F S256x16384 .f32 := addf v24 v53
  (v54, v28, v40, v47, v50)

def fn_step_1_part1 {F : FTy → Type} [FloatOps F] (arg0 : FVec F S256x16384 .f32) (arg1 : FVec F S16384 .f32) (arg2 : FVec F S16384 .f32) (arg3 : FVec F S16384 .f32) (arg4 : FVec F S1x256 .f32) (arg5 : FVec F S_ .f32) (v17 : FVec F S16384 .f32) (v18 : IVec S_ 32) (v19 : IVec S_ 1) : FVec F S256x16384 .f32 × FVec F S16384 .f32 × FVec F S16384 .f32 × FVec F S16384 .f32 × FVec F S1x256 .f32 :=
  let c_2 : IVec S_ 32 := constantI S_ 32 16384#32
  let v20 : IVec S_ 32 := addi v18 c_2
  let v21 : IVec S_ 32 := select v19 v20 v18
  let v22 : IVec S1 32 := broadcastInDim S1 ![] bcast_S_S1 v21
  let cst_3 : FVec F S_ .f32 := constant S_ .f32 0x00000000#32
  let v23 : FVec F S256 .f32 := broadcastInDim S256 ![] bcast_S_S256 cst_3
  let v24 : FVec F S256x16384 .f32 := (fun x i u => Host.scatter scatter_S256x16384_S1_S256_0_1_1_0 (fun _ b => b) x i u) arg0 v22 v23
  let cst_4 : FVec F S_ .f32 := constant S_ .f32 0x3F733333#32
  let v25 : FVec F S16384 .f32 := broadcastInDim S16384 ![] bcast_S_S16384 cst_4
  let v26 : FVec F S16384 .f32 := mulf v25 arg1
  let v27 : FVec F S16384 .f32 := addf v26 v17
  let v28 : FVec F S16384 .f32 := addf v27 arg2
  let v29 : FVec F S_ .f32 := Host.negf arg5
  let v30 : FVec F S_ .f32 := Host.exp v29
  let cst_5 : FVec F S_ .f32 := constant S_ .f32 0x3F800000#32
  let v31 : FVec F S_ .f32 := addf cst_5 v30
  let cst_6 : FVec F S_ .f32 := constant S_ .f32 0x3F800000#32
  let v32 : FVec F S_ .f32 := Host.divf cst_6 v31
  let cst_7 : FVec F S_ .f32 := constant S_ .f32 0x00000000#32
  let v33 : FVec F S_ .f32 := (fun x v => Host.reduceAdd x v reducesTo_S16384_S_d0 h_S_) v17 cst_7
  let cst_8 : FVec F S_ .f32 := constant S_ .f32 0x46800000#32
  let v34 : FVec F S_ .f32 := Host.divf v33 cst_8
  let v35 : FVec F S_ .f32 := mulf v32 v34
  let cst_9 : FVec F S_ .f32 := constant S_ .f32 0x3F800000#32
  fn_step_1_part2 (F := F) arg3 arg4 v17 v24 v28 v32 v35 cst_9

def fn_step_1 {F : FTy → Type} [FloatOps F] (arg0 : FVec F S256x16384 .f32) (arg1 : FVec F S16384 .f32) (arg2 : FVec F S16384 .f32) (arg3 : FVec F S16384 .f32) (arg4 : FVec F S1x256 .f32) (arg5 : FVec F S_ .f32) : FVec F S256x16384 .f32 × FVec F S16384 .f32 × FVec F S16384 .f32 × FVec F S16384 .f32 × FVec F S1x256 .f32 :=
  let v0 : FVec F S1x16384 .f32 := (fun l r => Host.dotGeneral dot_S1x256_S256x16384_S1x16384_1_0_0_1_n_n none l r) arg4 arg0
  let v1 : FVec F S1x1 .f32 := fn_norm (F := F) arg4
  let v2 : FVec F S1x16384 .f32 := fn_norm_2 (F := F) arg0
  let v3 : FVec F S1x16384 .f32 := broadcastInDim S1x16384 ![0, 1] bcast_S1x1_S1x16384_0_1 v1
  let v4 : FVec F S1x16384 .f32 := mulf v3 v2
  let v5 : FVec F S1x16384 .f32 := Host.divf v0 v4
  let cst : FVec F S_ .f32 := constant S_ .f32 0xFF800000#32
  let v6 : FVec F S1 .f32 := (fun x v => Host.reduce FloatOps.maximumf x v reducesTo_S1x16384_S1_d1 h_S_) v5 cst
  let cst_0 : FVec F S_ .f32 := constant S_ .f32 0xFF800000#32
  let v7 : FVec F S1 .f32 := broadcastInDim S1 ![] bcast_S_S1 cst_0
  let v8 : FVec F S1 .f32 := maximumf v7 v6
  let v9 : FVec F S1x1 .f32 := broadcastInDim S1x1 ![0] bcast_S1_S1x1_0 v8
  let v10 : FVec F S1x16384 .f32 := broadcastInDim S1x16384 ![0, 1] bcast_S1x1_S1x16384_0_1 v9
  let v11 : FVec F S1x16384 .f32 := subf v5 v10
  let v12 : FVec F S1x16384 .f32 := Host.exp v11
  let cst_1 : FVec F S_ .f32 := constant S_ .f32 0x00000000#32
  let v13 : FVec F S1 .f32 := (fun x v => Host.reduceAdd x v reducesTo_S1x16384_S1_d1 h_S_) v12 cst_1
  let v14 : FVec F S1x1 .f32 := broadcastInDim S1x1 ![0] bcast_S1_S1x1_0 v13
  let v15 : FVec F S1x16384 .f32 := broadcastInDim S1x16384 ![0, 1] bcast_S1x1_S1x16384_0_1 v14
  let v16 : FVec F S1x16384 .f32 := Host.divf v12 v15
  let v17 : FVec F S16384 .f32 := shapeCast S16384 v16 shapeCasts_S1x16384_S16384
  let v18 : IVec S_ 32 := fn_argmin (F := F) arg1
  let c : IVec S_ 32 := constantI S_ 32 0#32
  let v19 : IVec S_ 1 := cmpi .slt v18 c
  fn_step_1_part1 (F := F) arg0 arg1 arg2 arg3 arg4 arg5 v17 v18 v19

def fn_part6 {F : FTy → Type} [FloatOps F] (main_arg0 : FVec F S8x1x256 .f32) (main_arg4 : FVec F S_ .f32) (main_v75 : IVec S_ 1) (main_v78_0 : FVec F S256x16384 .f32) (main_v78_1 : FVec F S16384 .f32) (main_v78_2 : FVec F S16384 .f32) (main_v78_3 : FVec F S16384 .f32) (main_v83 : IVec S_ 1) : IVec S_ 1 :=
  let main_v84 : IVec S_ 1 := andi main_v75 main_v83
  let main_v85 : FVec F S1x1x256 .f32 := (extractStridedSlice S1x1x256 ![7, 0, 0] · slices_S8x1x256_S1x1x256_7_0_0) main_arg0
  let main_v86 : FVec F S1x256 .f32 := shapeCast S1x256 main_v85 shapeCasts_S1x1x256_S1x256
  let main_v87_0 : FVec F S256x16384 .f32 := (fn_step_1 (F := F) main_v78_0 main_v78_1 main_v78_2 main_v78_3 main_v86 main_arg4).1
  let main_v87_1 : FVec F S16384 .f32 := (fn_step_1 (F := F) main_v78_0 main_v78_1 main_v78_2 main_v78_3 main_v86 main_arg4).2.1
  let main_v87_2 : FVec F S16384 .f32 := (fn_step_1 (F := F) main_v78_0 main_v78_1 main_v78_2 main_v78_3 main_v86 main_arg4).2.2.1
  let main_v87_3 : FVec F S16384 .f32 := (fn_step_1 (F := F) main_v78_0 main_v78_1 main_v78_2 main_v78_3 main_v86 main_arg4).2.2.2.1
  let main_v87_4 : FVec F S1x256 .f32 := (fn_step_1 (F := F) main_v78_0 main_v78_1 main_v78_2 main_v78_3 main_v86 main_arg4).2.2.2.2
  main_v84

def fn_part5 {F : FTy → Type} [FloatOps F] (main_arg0 : FVec F S8x1x256 .f32) (main_arg4 : FVec F S_ .f32) (main_v66 : IVec S_ 1) (main_v69_0 : FVec F S256x16384 .f32) (main_v69_1 : FVec F S16384 .f32) (main_v69_2 : FVec F S16384 .f32) (main_v69_3 : FVec F S16384 .f32) : IVec S_ 1 :=
  let main_v70 : FVec F S256x16384 .f32 := mulf main_v69_0 main_v69_0
  let main_cst_24 : FVec F S_ .f32 := constant S_ .f32 0x00000000#32
  let main_v71 : FVec F S16384 .f32 := (fun x v => Host.reduceAdd x v reducesTo_S256x16384_S16384_d0 h_S_) main_v70 main_cst_24
  let main_cst_25 : FVec F S_ .f32 := constant S_ .f32 0x0DA24260#32
  let main_v72 : FVec F S16384 .f32 := broadcastInDim S16384 ![] bcast_S_S16384 main_cst_25
  let main_v73 : IVec S16384 1 := cmpf .oge main_v71 main_v72
  let main_c_26 : IVec S_ 1 := constantI S_ 1 1#1
  let main_v74 : IVec S_ 1 := (fun x v => Host.reduce IntOp.andi x v reducesTo_S16384_S_d0 h_S_) main_v73 main_c_26
  let main_v75 : IVec S_ 1 := andi main_v66 main_v74
  let main_v76 : FVec F S1x1x256 .f32 := (extractStridedSlice S1x1x256 ![6, 0, 0] · slices_S8x1x256_S1x1x256_6_0_0) main_arg0
  let main_v77 : FVec F S1x256 .f32 := shapeCast S1x256 main_v76 shapeCasts_S1x1x256_S1x256
  let main_v78_0 : FVec F S256x16384 .f32 := (fn_step_1 (F := F) main_v69_0 main_v69_1 main_v69_2 main_v69_3 main_v77 main_arg4).1
  let main_v78_1 : FVec F S16384 .f32 := (fn_step_1 (F := F) main_v69_0 main_v69_1 main_v69_2 main_v69_3 main_v77 main_arg4).2.1
  let main_v78_2 : FVec F S16384 .f32 := (fn_step_1 (F := F) main_v69_0 main_v69_1 main_v69_2 main_v69_3 main_v77 main_arg4).2.2.1
  let main_v78_3 : FVec F S16384 .f32 := (fn_step_1 (F := F) main_v69_0 main_v69_1 main_v69_2 main_v69_3 main_v77 main_arg4).2.2.2.1
  let main_v78_4 : FVec F S1x256 .f32 := (fn_step_1 (F := F) main_v69_0 main_v69_1 main_v69_2 main_v69_3 main_v77 main_arg4).2.2.2.2
  let main_v79 : FVec F S256x16384 .f32 := mulf main_v78_0 main_v78_0
  let main_cst_27 : FVec F S_ .f32 := constant S_ .f32 0x00000000#32
  let main_v80 : FVec F S16384 .f32 := (fun x v => Host.reduceAdd x v reducesTo_S256x16384_S16384_d0 h_S_) main_v79 main_cst_27
  let main_cst_28 : FVec F S_ .f32 := constant S_ .f32 0x0DA24260#32
  let main_v81 : FVec F S16384 .f32 := broadcastInDim S16384 ![] bcast_S_S16384 main_cst_28
  let main_v82 : IVec S16384 1 := cmpf .oge main_v80 main_v81
  let main_c_29 : IVec S_ 1 := constantI S_ 1 1#1
  let main_v83 : IVec S_ 1 := (fun x v => Host.reduce IntOp.andi x v reducesTo_S16384_S_d0 h_S_) main_v82 main_c_29
  fn_part6 (F := F) main_arg0 main_arg4 main_v75 main_v78_0 main_v78_1 main_v78_2 main_v78_3 main_v83

def fn_part4 {F : FTy → Type} [FloatOps F] (main_arg0 : FVec F S8x1x256 .f32) (main_arg4 : FVec F S_ .f32) (main_v48 : IVec S_ 1) (main_v51_0 : FVec F S256x16384 .f32) (main_v51_1 : FVec F S16384 .f32) (main_v51_2 : FVec F S16384 .f32) (main_v51_3 : FVec F S16384 .f32) (main_v56 : IVec S_ 1) : IVec S_ 1 :=
  let main_v57 : IVec S_ 1 := andi main_v48 main_v56
  let main_v58 : FVec F S1x1x256 .f32 := (extractStridedSlice S1x1x256 ![4, 0, 0] · slices_S8x1x256_S1x1x256_4_0_0) main_arg0
  let main_v59 : FVec F S1x256 .f32 := shapeCast S1x256 main_v58 shapeCasts_S1x1x256_S1x256
  let main_v60_0 : FVec F S256x16384 .f32 := (fn_step_1 (F := F) main_v51_0 main_v51_1 main_v51_2 main_v51_3 main_v59 main_arg4).1
  let main_v60_1 : FVec F S16384 .f32 := (fn_step_1 (F := F) main_v51_0 main_v51_1 main_v51_2 main_v51_3 main_v59 main_arg4).2.1
  let main_v60_2 : FVec F S16384 .f32 := (fn_step_1 (F := F) main_v51_0 main_v51_1 main_v51_2 main_v51_3 main_v59 main_arg4).2.2.1
  let main_v60_3 : FVec F S16384 .f32 := (fn_step_1 (F := F) main_v51_0 main_v51_1 main_v51_2 main_v51_3 main_v59 main_arg4).2.2.2.1
  let main_v60_4 : FVec F S1x256 .f32 := (fn_step_1 (F := F) main_v51_0 main_v51_1 main_v51_2 main_v51_3 main_v59 main_arg4).2.2.2.2
  let main_v61 : FVec F S256x16384 .f32 := mulf main_v60_0 main_v60_0
  let main_cst_21 : FVec F S_ .f32 := constant S_ .f32 0x00000000#32
  let main_v62 : FVec F S16384 .f32 := (fun x v => Host.reduceAdd x v reducesTo_S256x16384_S16384_d0 h_S_) main_v61 main_cst_21
  let main_cst_22 : FVec F S_ .f32 := constant S_ .f32 0x0DA24260#32
  let main_v63 : FVec F S16384 .f32 := broadcastInDim S16384 ![] bcast_S_S16384 main_cst_22
  let main_v64 : IVec S16384 1 := cmpf .oge main_v62 main_v63
  let main_c_23 : IVec S_ 1 := constantI S_ 1 1#1
  let main_v65 : IVec S_ 1 := (fun x v => Host.reduce IntOp.andi x v reducesTo_S16384_S_d0 h_S_) main_v64 main_c_23
  let main_v66 : IVec S_ 1 := andi main_v57 main_v65
  let main_v67 : FVec F S1x1x256 .f32 := (extractStridedSlice S1x1x256 ![5, 0, 0] · slices_S8x1x256_S1x1x256_5_0_0) main_arg0
  let main_v68 : FVec F S1x256 .f32 := shapeCast S1x256 main_v67 shapeCasts_S1x1x256_S1x256
  let main_v69_0 : FVec F S256x16384 .f32 := (fn_step_1 (F := F) main_v60_0 main_v60_1 main_v60_2 main_v60_3 main_v68 main_arg4).1
  let main_v69_1 : FVec F S16384 .f32 := (fn_step_1 (F := F) main_v60_0 main_v60_1 main_v60_2 main_v60_3 main_v68 main_arg4).2.1
  let main_v69_2 : FVec F S16384 .f32 := (fn_step_1 (F := F) main_v60_0 main_v60_1 main_v60_2 main_v60_3 main_v68 main_arg4).2.2.1
  let main_v69_3 : FVec F S16384 .f32 := (fn_step_1 (F := F) main_v60_0 main_v60_1 main_v60_2 main_v60_3 main_v68 main_arg4).2.2.2.1
  let main_v69_4 : FVec F S1x256 .f32 := (fn_step_1 (F := F) main_v60_0 main_v60_1 main_v60_2 main_v60_3 main_v68 main_arg4).2.2.2.2
  fn_part5 (F := F) main_arg0 main_arg4 main_v66 main_v69_0 main_v69_1 main_v69_2 main_v69_3

def fn_part3 {F : FTy → Type} [FloatOps F] (main_arg0 : FVec F S8x1x256 .f32) (main_arg4 : FVec F S_ .f32) (main_v39 : IVec S_ 1) (main_v42_0 : FVec F S256x16384 .f32) (main_v42_1 : FVec F S16384 .f32) (main_v42_2 : FVec F S16384 .f32) (main_v42_3 : FVec F S16384 .f32) : IVec S_ 1 :=
  let main_v43 : FVec F S256x16384 .f32 := mulf main_v42_0 main_v42_0
  let main_cst_15 : FVec F S_ .f32 := constant S_ .f32 0x00000000#32
  let main_v44 : FVec F S16384 .f32 := (fun x v => Host.reduceAdd x v reducesTo_S256x16384_S16384_d0 h_S_) main_v43 main_cst_15
  let main_cst_16 : FVec F S_ .f32 := constant S_ .f32 0x0DA24260#32
  let main_v45 : FVec F S16384 .f32 := broadcastInDim S16384 ![] bcast_S_S16384 main_cst_16
  let main_v46 : IVec S16384 1 := cmpf .oge main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v39 main_v47
  let main_v49 : FVec F S1x1x256 .f32 := (extractStridedSlice S1x1x256 ![3, 0, 0] · slices_S8x1x256_S1x1x256_3_0_0) main_arg0
  let main_v50 : FVec F S1x256 .f32 := shapeCast S1x256 main_v49 shapeCasts_S1x1x256_S1x256
  let main_v51_0 : FVec F S256x16384 .f32 := (fn_step_1 (F := F) main_v42_0 main_v42_1 main_v42_2 main_v42_3 main_v50 main_arg4).1
  let main_v51_1 : FVec F S16384 .f32 := (fn_step_1 (F := F) main_v42_0 main_v42_1 main_v42_2 main_v42_3 main_v50 main_arg4).2.1
  let main_v51_2 : FVec F S16384 .f32 := (fn_step_1 (F := F) main_v42_0 main_v42_1 main_v42_2 main_v42_3 main_v50 main_arg4).2.2.1
  let main_v51_3 : FVec F S16384 .f32 := (fn_step_1 (F := F) main_v42_0 main_v42_1 main_v42_2 main_v42_3 main_v50 main_arg4).2.2.2.1
  let main_v51_4 : FVec F S1x256 .f32 := (fn_step_1 (F := F) main_v42_0 main_v42_1 main_v42_2 main_v42_3 main_v50 main_arg4).2.2.2.2
  let main_v52 : FVec F S256x16384 .f32 := mulf main_v51_0 main_v51_0
  let main_cst_18 : FVec F S_ .f32 := constant S_ .f32 0x00000000#32
  let main_v53 : FVec F S16384 .f32 := (fun x v => Host.reduceAdd x v reducesTo_S256x16384_S16384_d0 h_S_) main_v52 main_cst_18
  let main_cst_19 : FVec F S_ .f32 := constant S_ .f32 0x0DA24260#32
  let main_v54 : FVec F S16384 .f32 := broadcastInDim S16384 ![] bcast_S_S16384 main_cst_19
  let main_v55 : IVec S16384 1 := cmpf .oge main_v53 main_v54
  let main_c_20 : IVec S_ 1 := constantI S_ 1 1#1
  let main_v56 : IVec S_ 1 := (fun x v => Host.reduce IntOp.andi x v reducesTo_S16384_S_d0 h_S_) main_v55 main_c_20
  fn_part4 (F := F) main_arg0 main_arg4 main_v48 main_v51_0 main_v51_1 main_v51_2 main_v51_3 main_v56

def fn_part2 {F : FTy → Type} [FloatOps F] (main_arg0 : FVec F S8x1x256 .f32) (main_arg4 : FVec F S_ .f32) (main_v21 : IVec S_ 1) (main_v24_0 : FVec F S256x16384 .f32) (main_v24_1 : FVec F S16384 .f32) (main_v24_2 : FVec F S16384 .f32) (main_v24_3 : FVec F S16384 .f32) (main_v29 : IVec S_ 1) : IVec S_ 1 :=
  let main_v30 : IVec S_ 1 := andi main_v21 main_v29
  let main_v31 : FVec F S1x1x256 .f32 := (extractStridedSlice S1x1x256 ![1, 0, 0] · slices_S8x1x256_S1x1x256_1_0_0) main_arg0
  let main_v32 : FVec F S1x256 .f32 := shapeCast S1x256 main_v31 shapeCasts_S1x1x256_S1x256
  let main_v33_0 : FVec F S256x16384 .f32 := (fn_step_1 (F := F) main_v24_0 main_v24_1 main_v24_2 main_v24_3 main_v32 main_arg4).1
  let main_v33_1 : FVec F S16384 .f32 := (fn_step_1 (F := F) main_v24_0 main_v24_1 main_v24_2 main_v24_3 main_v32 main_arg4).2.1
  let main_v33_2 : FVec F S16384 .f32 := (fn_step_1 (F := F) main_v24_0 main_v24_1 main_v24_2 main_v24_3 main_v32 main_arg4).2.2.1
  let main_v33_3 : FVec F S16384 .f32 := (fn_step_1 (F := F) main_v24_0 main_v24_1 main_v24_2 main_v24_3 main_v32 main_arg4).2.2.2.1
  let main_v33_4 : FVec F S1x256 .f32 := (fn_step_1 (F := F) main_v24_0 main_v24_1 main_v24_2 main_v24_3 main_v32 main_arg4).2.2.2.2
  let main_v34 : FVec F S256x16384 .f32 := mulf main_v33_0 main_v33_0
  let main_cst_12 : FVec F S_ .f32 := constant S_ .f32 0x00000000#32
  let main_v35 : FVec F S16384 .f32 := (fun x v => Host.reduceAdd x v reducesTo_S256x16384_S16384_d0 h_S_) main_v34 main_cst_12
  let main_cst_13 : FVec F S_ .f32 := constant S_ .f32 0x0DA24260#32
  let main_v36 : FVec F S16384 .f32 := broadcastInDim S16384 ![] bcast_S_S16384 main_cst_13
  let main_v37 : IVec S16384 1 := cmpf .oge main_v35 main_v36
  let main_c_14 : IVec S_ 1 := constantI S_ 1 1#1
  let main_v38 : IVec S_ 1 := (fun x v => Host.reduce IntOp.andi x v reducesTo_S16384_S_d0 h_S_) main_v37 main_c_14
  let main_v39 : IVec S_ 1 := andi main_v30 main_v38
  let main_v40 : FVec F S1x1x256 .f32 := (extractStridedSlice S1x1x256 ![2, 0, 0] · slices_S8x1x256_S1x1x256_2_0_0) main_arg0
  let main_v41 : FVec F S1x256 .f32 := shapeCast S1x256 main_v40 shapeCasts_S1x1x256_S1x256
  let main_v42_0 : FVec F S256x16384 .f32 := (fn_step_1 (F := F) main_v33_0 main_v33_1 main_v33_2 main_v33_3 main_v41 main_arg4).1
  let main_v42_1 : FVec F S16384 .f32 := (fn_step_1 (F := F) main_v33_0 main_v33_1 main_v33_2 main_v33_3 main_v41 main_arg4).2.1
  let main_v42_2 : FVec F S16384 .f32 := (fn_step_1 (F := F) main_v33_0 main_v33_1 main_v33_2 main_v33_3 main_v41 main_arg4).2.2.1
  let main_v42_3 : FVec F S16384 .f32 := (fn_step_1 (F := F) main_v33_0 main_v33_1 main_v33_2 main_v33_3 main_v41 main_arg4).2.2.2.1
  let main_v42_4 : FVec F S1x256 .f32 := (fn_step_1 (F := F) main_v33_0 main_v33_1 main_v33_2 main_v33_3 main_v41 main_arg4).2.2.2.2
  fn_part3 (F := F) main_arg0 main_arg4 main_v39 main_v42_0 main_v42_1 main_v42_2 main_v42_3

def fn_part1 {F : FTy → Type} [FloatOps F] (main_arg0 : FVec F S8x1x256 .f32) (main_arg2 : FVec F S256x16384 .f32) (main_arg4 : FVec F S_ .f32) (main_v0 : FVec F S16384 .f32) (main_v15 : IVec S_ 1) : IVec S_ 1 :=
  let main_v16 : FVec F S256x16384 .f32 := mulf main_arg2 main_arg2
  let main_cst_6 : FVec F S_ .f32 := constant S_ .f32 0x00000000#32
  let main_v17 : FVec F S16384 .f32 := (fun x v => Host.reduceAdd x v reducesTo_S256x16384_S16384_d0 h_S_) main_v16 main_cst_6
  let main_cst_7 : FVec F S_ .f32 := constant S_ .f32 0x0DA24260#32
  let main_v18 : FVec F S16384 .f32 := broadcastInDim S16384 ![] bcast_S_S16384 main_cst_7
  let main_v19 : IVec S16384 1 := cmpf .oge main_v17 main_v18
  let main_c_8 : IVec S_ 1 := constantI S_ 1 1#1
  let main_v20 : IVec S_ 1 := (fun x v => Host.reduce IntOp.andi x v reducesTo_S16384_S_d0 h_S_) main_v19 main_c_8
  let main_v21 : IVec S_ 1 := andi main_v15 main_v20
  let main_v22 : FVec F S1x1x256 .f32 := (extractStridedSlice S1x1x256 ![0, 0, 0] · slices_S8x1x256_S1x1x256_0_0_0) main_arg0
  let main_v23 : FVec F S1x256 .f32 := shapeCast S1x256 main_v22 shapeCasts_S1x1x256_S1x256
  let main_v24_0 : FVec F S256x16384 .f32 := (fn_step (F := F) main_arg2 main_v0 main_v0 main_v0 main_v23 main_arg4).1
  let main_v24_1 : FVec F S16384 .f32 := (fn_step (F := F) main_arg2 main_v0 main_v0 main_v0 main_v23 main_arg4).2.1
  let main_v24_2 : FVec F S16384 .f32 := (fn_step (F := F) main_arg2 main_v0 main_v0 main_v0 main_v23 main_arg4).2.2.1
  let main_v24_3 : FVec F S16384 .f32 := (fn_step (F := F) main_arg2 main_v0 main_v0 main_v0 main_v23 main_arg4).2.2.2.1
  let main_v24_4 : FVec F S1x256 .f32 := (fn_step (F := F) main_arg2 main_v0 main_v0 main_v0 main_v23 main_arg4).2.2.2.2
  let main_v25 : FVec F S256x16384 .f32 := mulf main_v24_0 main_v24_0
  let main_cst_9 : FVec F S_ .f32 := constant S_ .f32 0x00000000#32
  let main_v26 : FVec F S16384 .f32 := (fun x v => Host.reduceAdd x v reducesTo_S256x16384_S16384_d0 h_S_) main_v25 main_cst_9
  let main_cst_10 : FVec F S_ .f32 := constant S_ .f32 0x0DA24260#32
  let main_v27 : FVec F S16384 .f32 := broadcastInDim S16384 ![] bcast_S_S16384 main_cst_10
  let main_v28 : IVec S16384 1 := cmpf .oge main_v26 main_v27
  let main_c_11 : IVec S_ 1 := constantI S_ 1 1#1
  let main_v29 : IVec S_ 1 := (fun x v => Host.reduce IntOp.andi x v reducesTo_S16384_S_d0 h_S_) main_v28 main_c_11
  fn_part2 (F := F) main_arg0 main_arg4 main_v21 main_v24_0 main_v24_1 main_v24_2 main_v24_3 main_v29

def fn {F : FTy → Type} [FloatOps F] (main_arg0 : FVec F S8x1x256 .f32) (main_arg1 : FVec F S8x1x256 .f32) (main_arg2 : FVec F S256x16384 .f32) (main_arg3 : FVec F S256x16384 .f32) (main_arg4 : FVec F S_ .f32) : IVec S_ 1 :=
  let main_cst : FVec F S_ .f32 := constant S_ .f32 0x00000000#32
  let main_v0 : FVec F S16384 .f32 := broadcastInDim S16384 ![] bcast_S_S16384 main_cst
  let main_v1 : FVec F S8x1x256 .f32 := Host.absf main_arg0
  let main_cst_0 : FVec F S_ .f32 := constant S_ .f32 0x7F800000#32
  let main_v2 : FVec F S8x1x256 .f32 := broadcastInDim S8x1x256 ![] bcast_S_S8x1x256 main_cst_0
  let main_v3 : IVec S8x1x256 1 := cmpf .olt main_v1 main_v2
  let main_c : IVec S_ 1 := constantI S_ 1 1#1
  let main_v4 : IVec S_ 1 := (fun x v => Host.reduce IntOp.andi x v reducesTo_S8x1x256_S_d0_1_2 h_S_) main_v3 main_c
  let main_v5 : FVec F S256x16384 .f32 := Host.absf main_arg2
  let main_cst_1 : FVec F S_ .f32 := constant S_ .f32 0x7F800000#32
  let main_v6 : FVec F S256x16384 .f32 := broadcastInDim S256x16384 ![] bcast_S_S256x16384 main_cst_1
  let main_v7 : IVec S256x16384 1 := cmpf .olt main_v5 main_v6
  let main_c_2 : IVec S_ 1 := constantI S_ 1 1#1
  let main_v8 : IVec S_ 1 := (fun x v => Host.reduce IntOp.andi x v reducesTo_S256x16384_S_d0_1 h_S_) main_v7 main_c_2
  let main_v9 : IVec S_ 1 := andi main_v4 main_v8
  let main_v10 : FVec F S8x1x256 .f32 := mulf main_arg0 main_arg0
  let main_cst_3 : FVec F S_ .f32 := constant S_ .f32 0x00000000#32
  let main_v11 : FVec F S8x1 .f32 := (fun x v => Host.reduceAdd x v reducesTo_S8x1x256_S8x1_d2 h_S_) main_v10 main_cst_3
  let main_cst_4 : FVec F S_ .f32 := constant S_ .f32 0x00000000#32
  let main_v12 : FVec F S8x1 .f32 := broadcastInDim S8x1 ![] bcast_S_S8x1 main_cst_4
  let main_v13 : IVec S8x1 1 := cmpf .ogt main_v11 main_v12
  let main_c_5 : IVec S_ 1 := constantI S_ 1 1#1
  let main_v14 : IVec S_ 1 := (fun x v => Host.reduce IntOp.andi x v reducesTo_S8x1_S_d0_1 h_S_) main_v13 main_c_5
  let main_v15 : IVec S_ 1 := andi main_v9 main_v14
  fn_part1 (F := F) main_arg0 main_arg2 main_arg4 main_v0 main_v15
-- ==== Kernel.lean ====
abbrev S8x1x256 : Shape := ⟨3, ![8, 1, 256]⟩
abbrev S256x16384 : Shape := ⟨2, ![256, 16384]⟩
abbrev S_ : Shape := ⟨0, ![]⟩
abbrev S8x256 : Shape := ⟨2, ![8, 256]⟩
abbrev S1x1 : Shape := ⟨2, ![1, 1]⟩
abbrev S256x4096 : Shape := ⟨2, ![256, 4096]⟩
abbrev S8x8x2048 : Shape := ⟨3, ![8, 8, 2048]⟩
abbrev S8x2048 : Shape := ⟨2, ![8, 2048]⟩
abbrev S8x4096 : Shape := ⟨2, ![8, 4096]⟩
abbrev S8x1x2048 : Shape := ⟨3, ![8, 1, 2048]⟩
abbrev S4096 : Shape := ⟨1, ![4096]⟩
abbrev S1x4096 : Shape := ⟨2, ![1, 4096]⟩
abbrev S1x2048 : Shape := ⟨2, ![1, 2048]⟩
abbrev S8x8 : Shape := ⟨2, ![8, 8]⟩
abbrev S1x8x2048 : Shape := ⟨3, ![1, 8, 2048]⟩
abbrev S1 : Shape := ⟨1, ![1]⟩
abbrev S1x1x1 : Shape := ⟨3, ![1, 1, 1]⟩
abbrev S1x16384 : Shape := ⟨2, ![1, 16384]⟩
abbrev S1x256 : Shape := ⟨2, ![1, 256]⟩
abbrev S8x16384 : Shape := ⟨2, ![8, 16384]⟩

abbrev nBuf : Space → Nat
  | .hbm => 9
  | .vmem => 7
  | .smem => 1
  | _ => 0

abbrev bufTy : (tb : Table) → Fin (tcTables nBuf tb) → BufTy
  | .hbm, ⟨0, _⟩ => ⟨S8x1x256, .f32⟩
  | .hbm, ⟨1, _⟩ => ⟨S8x1x256, .f32⟩
  | .hbm, ⟨2, _⟩ => ⟨S256x16384, .f32⟩
  | .hbm, ⟨3, _⟩ => ⟨S256x16384, .f32⟩
  | .hbm, ⟨4, _⟩ => ⟨S_, .f32⟩
  | .hbm, ⟨5, _⟩ => ⟨S8x256, .f32⟩
  | .hbm, ⟨6, _⟩ => ⟨S1x1, .f32⟩
  | .hbm, ⟨7, _⟩ => ⟨S8x256, .f32⟩
  | .hbm, ⟨8, _⟩ => ⟨S8x1x256, .f32⟩
  | .local _ .vmem, ⟨0, _⟩ => ⟨S8x256, .f32⟩
  | .local _ .vmem, ⟨1, _⟩ => ⟨S256x4096, .f32⟩
  | .local _ .vmem, ⟨2, _⟩ => ⟨S256x4096, .f32⟩
  | .local _ .vmem, ⟨3, _⟩ => ⟨S8x256, .f32⟩
  | .local _ .vmem, ⟨4, _⟩ => ⟨S256x16384, .f32⟩
  | .local _ .vmem, ⟨5, _⟩ => ⟨S8x8x2048, .f32⟩
  | .local _ .vmem, ⟨6, _⟩ => ⟨S8x2048, .f32⟩
  | .local _ .smem, ⟨0, _⟩ => ⟨S1x1, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_i32_2 : BitVec 32 := 0#32
  let arg0 : BitVec 32 := BitVec.ofNat 32 (i 0).val
  let c4096_i32 : BitVec 32 := 4096#32
  let v6 : BitVec 32 := Scalar.muli arg0 c4096_i32
  ![0, v6.toNat]
def k0_off2 (i : grid0.Coords) : Fin 3 → Nat :=
  let c0_6 : Index := 0#32
  let c2_i32 : BitVec 32 := 2#32
  let arg0 : BitVec 32 := BitVec.ofNat 32 (i 0).val
  let v14 : BitVec 32 := Scalar.muli c2_i32 arg0
  let v15 : Index := Scalar.indexCast v14
  let c0_7 : Index := 0#32
  ![0, v15.toNat, 0]
def k0_off3 (i : grid0.Coords) : Fin 3 → Nat :=
  let c0_9 : Index := 0#32
  let c2_i32_8 : BitVec 32 := 2#32
  let arg0 : BitVec 32 := BitVec.ofNat 32 (i 0).val
  let v21 : BitVec 32 := Scalar.muli c2_i32_8 arg0
  let c1_i32 : BitVec 32 := 1#32
  let v22 : BitVec 32 := Scalar.addi v21 c1_i32
  let v23 : Index := Scalar.indexCast v22
  let c0_10 : Index := 0#32
  ![0, v23.toNat, 0]
def k0_off4 (i : grid0.Coords) : Fin 2 → Nat :=
  let c2_i32_12 : BitVec 32 := 2#32
  let arg0 : BitVec 32 := BitVec.ofNat 32 (i 0).val
  let v31 : BitVec 32 := Scalar.muli c2_i32_12 arg0
  let v32 : Index := Scalar.indexCast v31
  let c0_13 : Index := 0#32
  ![v32.toNat, 0]
def k0_off5 (i : grid0.Coords) : Fin 2 → Nat :=
  let c2_i32_14 : BitVec 32 := 2#32
  let arg0 : BitVec 32 := BitVec.ofNat 32 (i 0).val
  let v37 : BitVec 32 := Scalar.muli c2_i32_14 arg0
  let c1_i32_15 : BitVec 32 := 1#32
  let v38 : BitVec 32 := Scalar.addi v37 c1_i32_15
  let v39 : Index := Scalar.indexCast v38
  let c0_16 : Index := 0#32
  ![v39.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x256 : Shape := ⟨3, ![8, 1, 256]⟩
abbrev S256x16384 : Shape := ⟨2, ![256, 16384]⟩
abbrev S_ : Shape := ⟨0, ![]⟩
abbrev S16384 : Shape := ⟨1, ![16384]⟩
abbrev S1x1x256 : Shape := ⟨3, ![1, 1, 256]⟩
abbrev S1x256 : Shape := ⟨2, ![1, 256]⟩
abbrev S1x16384 : Shape := ⟨2, ![1, 16384]⟩
abbrev S1 : Shape := ⟨1, ![1]⟩
abbrev S1x1 : Shape := ⟨2, ![1, 1]⟩
abbrev S256 : Shape := ⟨1, ![256]⟩
abbrev S16384x256 : Shape := ⟨2, ![16384, 256]⟩
abbrev S256x1 : Shape := ⟨2, ![256, 1]⟩

abbrev nBuf : Space → Nat
  | .hbm => 117
  | .vmem => 0
  | .smem => 0
  | _ => 0

abbrev bufTy : (tb : Table) → Fin (tcTables nBuf tb) → BufTy
  | .hbm, ⟨0, _⟩ => ⟨S8x1x256, .f32⟩
  | .hbm, ⟨1, _⟩ => ⟨S8x1x256, .f32⟩
  | .hbm, ⟨2, _⟩ => ⟨S256x16384, .f32⟩
  | .hbm, ⟨3, _⟩ => ⟨S256x16384, .f32⟩
  | .hbm, ⟨4, _⟩ => ⟨S_, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S8x1x256, .f32⟩
  | .hbm, ⟨9, _⟩ => ⟨S_, .i32⟩
  | .hbm, ⟨10, _⟩ => ⟨S8x1x256, .f32⟩
  | .hbm, ⟨11, _⟩ => ⟨S_, .f32⟩
  | .hbm, ⟨12, _⟩ => ⟨S_, .i32⟩
  | .hbm, ⟨13, _⟩ => ⟨S256x16384, .f32⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S8x1x256, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x1x256, .f32⟩
  | .hbm, ⟨23, _⟩ => ⟨S1x256, .f32⟩
  | .hbm, ⟨24, _⟩ => ⟨S1x16384, .f32⟩
  | .hbm, ⟨25, _⟩ => ⟨S1x256, .f32⟩
  | .hbm, ⟨26, _⟩ => ⟨S_, .f32⟩
  | .hbm, ⟨27, _⟩ => ⟨S1, .f32⟩
  | .hbm, ⟨28, _⟩ => ⟨S1x1, .f32⟩
  | .hbm, ⟨29, _⟩ => ⟨S1x1, .f32⟩
  | .hbm, ⟨30, _⟩ => ⟨S256x16384, .f32⟩
  | .hbm, ⟨31, _⟩ => ⟨S_, .f32⟩
  | .hbm, ⟨32, _⟩ => ⟨S16384, .f32⟩
  | .hbm, ⟨33, _⟩ => ⟨S1x16384, .f32⟩
  | .hbm, ⟨34, _⟩ => ⟨S1x16384, .f32⟩
  | .hbm, ⟨35, _⟩ => ⟨S1x16384, .f32⟩
  | .hbm, ⟨36, _⟩ => ⟨S1x16384, .f32⟩
  | .hbm, ⟨37, _⟩ => ⟨S1x16384, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1x1, .f32⟩
  | .hbm, ⟨44, _⟩ => ⟨S1x16384, .f32⟩
  | .hbm, ⟨45, _⟩ => ⟨S1x16384, .f32⟩
  | .hbm, ⟨46, _⟩ => ⟨S1x16384, .f32⟩
  | .hbm, ⟨47, _⟩ => ⟨S_, .f32⟩
  | .hbm, ⟨48, _⟩ => ⟨S1, .f32⟩
  | .hbm, ⟨49, _⟩ => ⟨S1x1, .f32⟩
  | .hbm, ⟨50, _⟩ => ⟨S1x16384, .f32⟩
  | .hbm, ⟨51, _⟩ => ⟨S1x16384, .f32⟩
  | .hbm, ⟨52, _⟩ => ⟨S16384, .f32⟩
  | .hbm, ⟨53, _⟩ => ⟨S16384, .i32⟩
  | .hbm, ⟨54, _⟩ => ⟨S_, .f32⟩
  | .hbm, ⟨55, _⟩ => ⟨S_, .i32⟩
  | .hbm, ⟨56, _⟩ => ⟨S_, .f32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S_, .f32⟩
  | .hbm, ⟨65, _⟩ => ⟨S256, .f32⟩
  | .hbm, ⟨66, _⟩ => ⟨S256x16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S16384, .i32⟩
  | .hbm, ⟨90, _⟩ => ⟨S_, .f32⟩
  | .hbm, ⟨91, _⟩ => ⟨S_, .i32⟩
  | .hbm, ⟨92, _⟩ => ⟨S_, .f32⟩
  | .hbm, ⟨93, _⟩ => ⟨S_, .i32⟩
  | .hbm, ⟨94, _⟩ => ⟨S_, .f32⟩
  | .hbm, ⟨95, _⟩ => ⟨S16384, .f32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S_, .f32⟩
  | .hbm, ⟨103, _⟩ => ⟨S16384, .f32⟩
  | .hbm, ⟨104, _⟩ => ⟨S16384x256, .f32⟩
  | .hbm, ⟨105, _⟩ => ⟨S256, .f32⟩
  | .hbm, ⟨106, _⟩ => ⟨S1x256, .f32⟩
  | .hbm, ⟨107, _⟩ => ⟨S256x1, .f32⟩
  | .hbm, ⟨108, _⟩ => ⟨S1x16384, .f32⟩
  | .hbm, ⟨109, _⟩ => ⟨S256x16384, .f32⟩
  | .hbm, ⟨110, _⟩ => ⟨S256x16384, .f32⟩
  | .hbm, ⟨111, _⟩ => ⟨S1x1x256, .f32⟩
  | .hbm, ⟨112, _⟩ => ⟨S_, .i32⟩
  | .hbm, ⟨113, _⟩ => ⟨S_, .i32⟩
  | .hbm, ⟨114, _⟩ => ⟨S8x1x256, .f32⟩
  | .hbm, ⟨115, _⟩ => ⟨S_, .i32⟩
  | .hbm, ⟨116, _⟩ => ⟨S_, .i32⟩
  | _, _ => ⟨S8x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_c : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_while0c_c_8 : Ref sig .tc := ⟨.hbm, 18, rfl⟩
abbrev main_while0c_v3 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v3 : Ref sig .tc := ⟨.hbm, 23, rfl⟩
abbrev main_while0b_v4 : Ref sig .tc := ⟨.hbm, 24, rfl⟩
abbrev main_while0b_call1_v0 : Ref sig .tc := ⟨.hbm, 25, rfl⟩
abbrev main_while0b_call1_cst : Ref sig .tc := ⟨.hbm, 26, rfl⟩
abbrev main_while0b_call1_v1 : Ref sig .tc := ⟨.hbm, 27, rfl⟩
abbrev main_while0b_call1_v2 : Ref sig .tc := ⟨.hbm, 28, rfl⟩
abbrev main_while0b_v5 : Ref sig .tc := ⟨.hbm, 29, rfl⟩
abbrev main_while0b_call2_v0 : Ref sig .tc := ⟨.hbm, 30, rfl⟩
abbrev main_while0b_call2_cst : Ref sig .tc := ⟨.hbm, 31, rfl⟩
abbrev main_while0b_call2_v1 : Ref sig .tc := ⟨.hbm, 32, rfl⟩
abbrev main_while0b_call2_v2 : Ref sig .tc := ⟨.hbm, 33, rfl⟩
abbrev main_while0b_v6 : Ref sig .tc := ⟨.hbm, 34, rfl⟩
abbrev main_while0b_v7 : Ref sig .tc := ⟨.hbm, 35, rfl⟩
abbrev main_while0b_v8 : Ref sig .tc := ⟨.hbm, 36, rfl⟩
abbrev main_while0b_v9 : Ref sig .tc := ⟨.hbm, 37, rfl⟩
abbrev main_while0b_cst_8 : Ref sig .tc := ⟨.hbm, 38, rfl⟩
abbrev main_while0b_v10 : Ref sig .tc := ⟨.hbm, 39, rfl⟩
abbrev main_while0b_cst_9 : Ref sig .tc := ⟨.hbm, 40, rfl⟩
abbrev main_while0b_v11 : Ref sig .tc := ⟨.hbm, 41, rfl⟩
abbrev main_while0b_v12 : Ref sig .tc := ⟨.hbm, 42, rfl⟩
abbrev main_while0b_v13 : Ref sig .tc := ⟨.hbm, 43, rfl⟩
abbrev main_while0b_v14 : Ref sig .tc := ⟨.hbm, 44, rfl⟩
abbrev main_while0b_v15 : Ref sig .tc := ⟨.hbm, 45, rfl⟩
abbrev main_while0b_v16 : Ref sig .tc := ⟨.hbm, 46, rfl⟩
abbrev main_while0b_cst_10 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_call3_v0 : Ref sig .tc := ⟨.hbm, 53, rfl⟩
abbrev main_while0b_call3_cst : Ref sig .tc := ⟨.hbm, 54, rfl⟩
abbrev main_while0b_call3_c : Ref sig .tc := ⟨.hbm, 55, rfl⟩
abbrev main_while0b_call3_v1_0 : Ref sig .tc := ⟨.hbm, 56, rfl⟩
abbrev main_while0b_v22 : Ref sig .tc := ⟨.hbm, 57, rfl⟩
abbrev main_while0b_c_11 : Ref sig .tc := ⟨.hbm, 58, rfl⟩
abbrev main_while0b_v23 : Ref sig .tc := ⟨.hbm, 59, rfl⟩
abbrev main_while0b_c_12 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_cst_13 : Ref sig .tc := ⟨.hbm, 64, rfl⟩
abbrev main_while0b_v27 : Ref sig .tc := ⟨.hbm, 65, rfl⟩
abbrev main_while0b_v28 : Ref sig .tc := ⟨.hbm, 66, rfl⟩
abbrev main_while0b_cst_14 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_v34 : Ref sig .tc := ⟨.hbm, 73, rfl⟩
abbrev main_while0b_cst_15 : Ref sig .tc := ⟨.hbm, 74, rfl⟩
abbrev main_while0b_v35 : Ref sig .tc := ⟨.hbm, 75, rfl⟩
abbrev main_while0b_cst_16 : Ref sig .tc := ⟨.hbm, 76, rfl⟩
abbrev main_while0b_v36 : Ref sig .tc := ⟨.hbm, 77, rfl⟩
abbrev main_while0b_cst_17 : Ref sig .tc := ⟨.hbm, 78, rfl⟩
abbrev main_while0b_v37 : Ref sig .tc := ⟨.hbm, 79, rfl⟩
abbrev main_while0b_cst_18 : Ref sig .tc := ⟨.hbm, 80, rfl⟩
abbrev main_while0b_v38 : Ref sig .tc := ⟨.hbm, 81, rfl⟩
abbrev main_while0b_v39 : Ref sig .tc := ⟨.hbm, 82, rfl⟩
abbrev main_while0b_cst_19 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_call4_v0 : Ref sig .tc := ⟨.hbm, 89, rfl⟩
abbrev main_while0b_call4_cst : Ref sig .tc := ⟨.hbm, 90, rfl⟩
abbrev main_while0b_call4_c : Ref sig .tc := ⟨.hbm, 91, rfl⟩
abbrev main_while0b_call4_v1_0 : Ref sig .tc := ⟨.hbm, 92, rfl⟩
abbrev main_while0b_v45 : Ref sig .tc := ⟨.hbm, 93, rfl⟩
abbrev main_while0b_cst_20 : Ref sig .tc := ⟨.hbm, 94, rfl⟩
abbrev main_while0b_v46 : Ref sig .tc := ⟨.hbm, 95, rfl⟩
abbrev main_while0b_c_21 : Ref sig .tc := ⟨.hbm, 96, rfl⟩
abbrev main_while0b_v47 : Ref sig .tc := ⟨.hbm, 97, rfl⟩
abbrev main_while0b_c_22 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_cst_23 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_call5_v0 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_v59 : Ref sig .tc := ⟨.hbm, 114, rfl⟩
abbrev main_while0b_c_24 : Ref sig .tc := ⟨.hbm, 115, rfl⟩
abbrev main_while0b_v60 : Ref sig .tc := ⟨.hbm, 116, rfl⟩

abbrev nD : Nat := 1
abbrev τ : Topo := Topo.v7x

variable {F : FTy → Type} [FloatOps F]

abbrev main_while0_count : Scf.Loop 32 := ⟨0#32, 8#32, 1#32⟩
-- ==== Proof.TileRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-
  The four tile points: what one of them leaves in the three scratch buffers.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev scM0 : Memref sig .tc .vmem S256x16384 .f32 := Memref.whole cc0_scratch0
abbrev scM1 : Memref sig .tc .vmem S8x8x2048 .f32 := Memref.whole cc0_scratch1
abbrev scM2 : Memref sig .tc .vmem S8x2048 .f32 := Memref.whole cc0_scratch2

/-- The copy of the keys' memory after tile pass `n`: the tile put at its columns. -/
abbrev pass0 (n : ℕ) (x3 : Vec F S256x4096 .f32) (g : Vec F S256x16384 .f32) : Vec F S256x16384 .f32 :=
  VecWindow.put g ![0, 4096 * n] S256x4096.size x3
/-- The products with the keys after tile pass `n`: the tile's two rows of lanes put in every key's slab. -/
abbrev pass1 (n : ℕ) (x3 : Vec F S256x4096 .f32) (x2 : Vec F S8x256 .f32) (g : Vec F S8x8x2048 .f32) : Vec F S8x8x2048 .f32 :=
  VecWindow.put (VecWindow.put g ![0, 2 * n, 0] S8x1x2048.size (k0_pay4 x3 x2)) ![0, 2 * n + 1, 0] S8x1x2048.size (k0_pay5 x3 x2)
/-- The columns' square norms after tile pass `n`. -/
abbrev pass2 (n : ℕ) (x3 : Vec F S256x4096 .f32) (g : Vec F S8x2048 .f32) : Vec F S8x2048 .f32 :=
  VecWindow.put (VecWindow.put g ![2 * n, 0] S1x2048.size (k0_pay7 x3)) ![2 * n + 1, 0] S1x2048.size (k0_pay1 (k0_pay8 x3))

theorem read_slice_put {off off' : Fin 2 → ℕ} (inb : ∀ a, off a + S256x4096.size a ≤ S256x16384.size a)
    (f : scM0.view.ty.Contents (Elt F)) (w : S256x4096.Idx → Elt F .f32) (h : off = off') :
    View.read (Elt F) scM0.view (View.write (Elt F) (scM0.slice (Rect.unit off S256x4096.size inb) (fun _ => rfl)).view f w Finset.univ)
      = VecWindow.put (View.read (Elt F) scM0.view f) off' S256x4096.size w :=
  View.read_writes_cons_put scM0.view f inb w [] h

/-- One tile pass: on its windows and the three scratch buffers, each whole, the tile in two shares (the transfer reads
    one while the loads read the other), the pass leaves the windows as they were and the scratch buffers at `pass0`,
    `pass1`, `pass2`. -/
theorem tileRun (c : Dev nD) (i : grid0.Coords) (h1 : k0_cond1 i = 1#1) (h2 : ¬ k0_cond2 i = 1#1)
    (arg1 : Memref sig .tc .smem S1x1 .f32) (harg1 : arg1.IsWhole) (arg2 : Memref sig .tc .vmem S8x256 .f32) (harg2 : arg2.IsWhole)
    (arg3 : Memref sig .tc .vmem S256x4096 .f32) (harg3 : arg3.IsWhole) (arg4 : Memref sig .tc .vmem S8x256 .f32) (harg4 : arg4.IsWhole)
    (x2 : Vec F S8x256 .f32) (x3 : Vec F S256x4096 .f32)
    (g0 : Vec F S256x16384 .f32) (g1 : Vec F S8x8x2048 .f32) (g2 : Vec F S8x2048 .f32)
    (W : Waits sig Unit) (K : PUnit → sProp 𝕄) :
    iprop(owns (c : Thread nD τ) arg2 fullShare x2
        ∗ owns (c : Thread nD τ) arg3 fullShare.left x3
        ∗ owns (c : Thread nD τ) arg3 fullShare.right x3
        ∗ owns (c : Thread nD τ) scM0 fullShare g0
        ∗ owns (c : Thread nD τ) scM1 fullShare g1
        ∗ owns (c : Thread nD τ) scM2 fullShare g2
        ∗ semVal ((c : Thread nD τ), SemLoc.dma 5) 0
        ∗ owes (c : Thread nD τ) 0 W
        ∗ (iprop(owns (c : Thread nD τ) arg2 fullShare x2
            ∗ owns (c : Thread nD τ) arg3 fullShare.left x3
            ∗ owns (c : Thread nD τ) arg3 fullShare.right x3
            ∗ owns (c : Thread nD τ) scM0 fullShare (pass0 (i 0).val x3 g0)
            ∗ owns (c : Thread nD τ) scM1 fullShare (pass1 (i 0).val x3 x2 g1)
            ∗ owns (c : Thread nD τ) scM2 fullShare (pass2 (i 0).val x3 g2)
            ∗ semVal ((c : Thread nD τ), SemLoc.dma 5) 0
            ∗ (∃ W', owes (c : Thread nD τ) 0 W')) -∗ K ⟨⟩))
      ⊢ wp frame (wpE (defs₀ (F := F)) Variants.none c none) Set.univ
          (cc0__memory_kernel i arg1 harg1 arg2 harg2 arg3 harg3 arg4 harg4
            scM0 (Memref.isWhole_whole _) scM1 (Memref.isWhole_whole _) scM2 (Memref.isWhole_whole _) cc0_scratch3) K := by
  simp only [cc0__memory_kernel_eq_skeleton]; unfold cc0__memory_kernel_skel
  simp only [k0_part1_eq_skeleton]; unfold k0_part1_skel
  unfold owns
  iintro ⟨⟨%f2, %e2, H2⟩, ⟨%f3, %e3, H3⟩, ⟨%f3', %e3', H3'⟩, ⟨%s0, %es0, HS0⟩, ⟨%s1, %es1, HS1⟩, ⟨%s2, %es2, HS2⟩, Hq, HW, Hk⟩
  sl_exec
  sl_step
  iapply Hk
  isplitl [H2]; · iexists f2; isplitr; · ipureintro; exact e2
                  iexact H2
  isplitl [H3]; · iexists f3; isplitr; · ipureintro; exact e3
                  iexact H3
  isplitl [H3']; · iexists f3'; isplitr; · ipureintro; exact e3'
                   iexact H3'
  isplitl [HS0]
  · iexists _; isplitr; swap; · iexact HS0
    ipureintro
    sl_unfold_run_names
    rw [read_slice_put _ _ _ (k0_off1_eq i), es0]
    exact congrArg (VecWindow.put g0 _ _) e3
  isplitl [HS1]
  · iexists _; isplitr; swap; · iexact HS1
    ipureintro
    rw [View.read_writes_cons_put _ _ _ _ _ (k0_off3_eq i), View.read_writes_cons_put _ _ _ _ _ (k0_off2_eq i), View.writes_nil, es1,
      View.readAt_full, View.readAt_full, e2, e3']
  isplitl [HS2]
  · iexists _; isplitr; swap; · iexact HS2
    ipureintro
    rw [View.read_writes_cons_put _ _ _ _ _ (k0_off5_eq i), View.read_writes_cons_put _ _ _ _ _ (k0_off4_eq i), View.writes_nil, es2,
      View.readAt_full, e3']
  isplitl [Hq]; · iexact Hq
  iexists _; iexact HW

end Cert.KernelIdeal.Hand
end
-- ==== Proof.StatePass.lean ====
module

public import proofs.«01_k».proof.Proof.Gen.KernelIdeal.Skeleton
public import Idealize.ShloMosaic.Lib.Tactic

/-
  The state pass as ONE step iterated. The kernel unrolls its eight time steps; here a step is written once, over the time
  index `t` and the list of the write rows kept so far, in the vector operations of the printed program and in their order,
  and the printed pass is shown to be eight of them.
-/

@[expose] public section

noncomputable section

namespace Cert.KernelIdeal.Hand

open Cert.KernelIdeal Cert.KernelIdeal.Gen
open Idealize.ShloMosaic Idealize.ShloMosaic.Tactic Idealize.SL.Sem

variable {F : FTy → Type} [FloatOps F]

/-- A row of cells of the memory, in the kernel's 8 × 2048 arrangement. -/
abbrev Cells (F : FTy → Type) : Type := FVec F S8x2048 .f32

theorem slices_C (t s : Fin 8) : S8x8.Slices ![t.val, s.val] S1x1 := by revert t s; decide
theorem slices_K (s : Fin 8) : S8x256.Slices ![s.val, 0] S1x256 := by revert s; decide

/-- The entry `(t, s)` of the table of the keys' inner products. -/
def gram (C : FVec F S8x8 .f32) (t s : Fin 8) : F .f32 :=
  extractAt ![0, 0] (extractStridedSlice S1x1 ![t.val, s.val] C (slices_C t s)) inpos_S1x1_p0_0
/-- A constant row of cells. -/
def fill (x : F .f32) : Cells F := broadcast S8x2048 x
/-- The sum over all the cells. -/
def cellSum (w : Cells F) : F .f32 :=
  extractAt ![0, 0, 0] (shapeCast S1x1x1 (multiReduction .add [1, 2] S1 (shapeCast S1x8x2048 w shapeCasts_S8x2048_S1x8x2048)
    0x00000000#32 reduces_S1x8x2048_S1 (.inl rfl) rfl) shapeCasts_S1_S1x1x1) inpos_S1x1x1_p0_0_0
/-- The least value of the cells. -/
def cellMin (w : Cells F) : F .f32 :=
  extractAt ![0, 0, 0] (shapeCast S1x1x1 (multiReduction .minimumf [1, 2] S1 (shapeCast S1x8x2048 w shapeCasts_S8x2048_S1x8x2048)
    0x7F800000#32 reduces_S1x8x2048_S1 (.inl rfl) rfl) shapeCasts_S1_S1x1x1) inpos_S1x1x1_p0_0_0
/-- The number of each cell. -/
def cellNo : IVec S8x2048 32 := addi k0_pay20 (iota .tc S8x2048 32 [1] iota_S8x2048_d1_w32)
/-- The number of the first cell that holds the least value. -/
def firstMin (w : Cells F) : BitVec 32 :=
  extractAt ![0, 0, 0] (shapeCast S1x1x1 (multiReductionI .minsi [1, 2] S1 (shapeCast S1x8x2048
    (select (cmpf .oeq w (broadcast S8x2048 (cellMin w))) cellNo (broadcast S8x2048 16384#32)) shapeCasts_S8x2048_S1x8x2048)
    2147483647#32 reduces_S1x8x2048_S1 rfl) shapeCasts_S1_S1x1x1) inpos_S1x1x1_p0_0_0
/-- One at that cell, zero elsewhere. -/
def leastHot (w : Cells F) : Cells F :=
  sitofp .f32 (extui 32 (cmpi .eq cellNo (broadcast S8x2048 (firstMin w))) natLt_1_32)

/-- The state a time step works on: which cells still hold their first contents, the write rows kept so far with their
    times, the usage, write and least-used rows, the cells' square norms, and the correction rows of the result. -/
structure St (F : FTy → Type) where
  z : Cells F
  ws : List (Fin 8 × Cells F)
  wu : Cells F
  ww : Cells F
  wl : Cells F
  nrm : Cells F
  out : FVec F S8x256 .f32

/-- The keys' products with the memory of the step, from the products with the first memory. -/
def stNum (C : FVec F S8x8 .f32) (t : Fin 8) (G : Cells F) (z : Cells F) (ws : List (Fin 8 × Cells F)) : Cells F :=
  ws.foldl (fun a p => addf a (mulf (fill (gram C t p.1)) p.2)) (mulf z G)
/-- The exponentials of the similarities. -/
def stExp (C : FVec F S8x8 .f32) (t : Fin 8) (num nrm : Cells F) : Cells F :=
  exp (mulf num (mulf (rsqrt (maximumf nrm (fill (Scalar.ofBits .f32 0x0DA24260#32)))) (fill (Scalar.rsqrt (gram C t t)))))
/-- The read row: the exponentials over their sum. -/
def readRow (e : Cells F) : Cells F := mulf e (fill (Scalar.divf (Scalar.ofBits .f32 0x3F800000#32) (cellSum e)))
def stRead (C : FVec F S8x8 .f32) (t : Fin 8) (G : Cells F) (σ : St F) : Cells F :=
  readRow (stExp C t (stNum C t G σ.z σ.ws) σ.nrm)
/-- The cells the step does not clear. -/
def stKeep (σ : St F) : Cells F := subf (fill (Scalar.ofBits .f32 0x3F800000#32)) (leastHot σ.wu)
def stZ (σ : St F) : Cells F := mulf σ.z (stKeep σ)
def stWs (σ : St F) : List (Fin 8 × Cells F) := σ.ws.map fun p => (p.1, mulf p.2 (stKeep σ))
def stWu (σ : St F) (wr : Cells F) : Cells F := addf (addf (mulf (fill (Scalar.ofBits .f32 0x3F733333#32)) σ.wu) wr) σ.ww
def stWw (b : F .f32) (σ : St F) : Cells F :=
  addf (fill (Scalar.divf b (Scalar.ofBits .f32 0x46800000#32))) (mulf (fill (Scalar.subf (Scalar.ofBits .f32 0x3F800000#32) b)) σ.wl)
/-- What the kept write rows add to the step's result row. -/
def stAcc (K : FVec F S8x256 .f32) (wr : Cells F) (ws : List (Fin 8 × Cells F)) : FVec F S1x256 .f32 :=
  ws.foldl (fun a p => addf a (mulf (broadcast S1x256 (cellSum (mulf wr p.2))) (extractStridedSlice S1x256 ![p.1.val, 0] K (slices_K p.1))))
    (broadcast S1x256 (Scalar.ofBits .f32 0x00000000#32))
def rowNo : IVec S8x256 32 := iota .tc S8x256 32 [0] iota_S8x256_d0_w32
def stOut (t : Fin 8) (acc : FVec F S1x256 .f32) (out : FVec F S8x256 .f32) : FVec F S8x256 .f32 :=
  select (cmpi .eq rowNo (broadcast S8x256 (BitVec.ofNat 32 t.val)))
    (broadcastTo S8x256 (shapeCast S1x256 acc shapeCasts_S1x256_S1x256) broadcasts_S1x256_S8x256) out
def stNrm (C : FVec F S8x8 .f32) (t : Fin 8) (keep ww num nrm : Cells F) : Cells F :=
  addf (mulf keep (addf nrm (mulf (mulf (fill (Scalar.ofBits .f32 0x40000000#32)) ww) num))) (mulf (mulf ww ww) (fill (gram C t t)))

/-- One time step. -/
def step (K : FVec F S8x256 .f32) (b : F .f32) (C : FVec F S8x8 .f32) (t : Fin 8) (G : Cells F) (σ : St F) : St F where
  z := stZ σ
  ws := stWs σ ++ [(t, stWw b σ)]
  wu := stWu σ (stRead C t G σ)
  ww := stWw b σ
  wl := leastHot (stWu σ (stRead C t G σ))
  nrm := stNrm C t (stKeep σ) (stWw b σ) (stNum C t G σ.z σ.ws) σ.nrm
  out := stOut t (stAcc K (stRead C t G σ) (stWs σ)) σ.out
/-- The step's row of weights on the first memory. -/
def stRow (C : FVec F S8x8 .f32) (t : Fin 8) (G : Cells F) (σ : St F) : FVec F S1x16384 .f32 :=
  shapeCast S1x16384 (mulf (stRead C t G σ) (stZ σ)) shapeCasts_S8x2048_S1x16384

/-- The state before the first step. -/
def st0 (nrm : Cells F) : St F :=
  ⟨fill (Scalar.ofBits .f32 0x3F800000#32), [], fill (Scalar.ofBits .f32 0x00000000#32), fill (Scalar.ofBits .f32 0x00000000#32),
    fill (Scalar.ofBits .f32 0x00000000#32), nrm, broadcast S8x256 (Scalar.ofBits .f32 0x00000000#32)⟩

/-- The state after `n` steps. -/
def stAt (K : FVec F S8x256 .f32) (b : F .f32) (C : FVec F S8x8 .f32) (G : Fin 8 → Cells F) (nrm : Cells F) : ℕ → St F
  | 0 => st0 nrm
  | n + 1 => if h : n < 8 then step K b C ⟨n, h⟩ (G ⟨n, h⟩) (stAt K b C G nrm n) else stAt K b C G nrm n

theorem stAt_succ (K : FVec F S8x256 .f32) (b : F .f32) (C : FVec F S8x8 .f32) (G : Fin 8 → Cells F) (nrm : Cells F) (n : ℕ) (h : n < 8) :
    stAt K b C G nrm (n + 1) = step K b C ⟨n, h⟩ (G ⟨n, h⟩) (stAt K b C G nrm n) := dif_pos h

end Cert.KernelIdeal.Hand
end
-- ==== Proof.StatePassEq.lean ====
module

public import proofs.«01_k».proof.Proof.StatePass
public import Idealize.ShloMosaic.Lib.Tactic

/-
  The printed state pass, in its parts, is the step of `StatePass` eight times over.
-/

@[expose] public section

noncomputable section

namespace Cert.KernelIdeal.Hand

open Cert.KernelIdeal Cert.KernelIdeal.Gen
open Idealize.ShloMosaic Idealize.ShloMosaic.Tactic Idealize.SL.Sem

variable {F : FTy → Type} [FloatOps F]

/-- The vectors the state pass works on, from what it loads. -/
def gOf (x0 x1 x2 x3 x4 x5 x6 x7 : Vec F S1x8x2048 .f32) : Fin 8 → Cells F :=
  ![k0_pay12 x0, k0_pay13 x1, k0_pay14 x2, k0_pay15 x3, k0_pay16 x4, k0_pay17 x5, k0_pay18 x6, k0_pay19 x7]

/-- What the printed state pass computes from its loads, as the printed parts hand it on. -/
def passTuple (K : FVec F S8x256 .f32) (b : F .f32) (C : FVec F S8x8 .f32) (G : Fin 8 → Cells F) (nrm : Cells F) :
    Σ' (v105 : FVec F S1x16384 .f32) (v193 : FVec F S1x16384 .f32) (v296 : FVec F S1x16384 .f32) (v414 : FVec F S1x16384 .f32) (v547 : FVec F S1x16384 .f32) (v695 : FVec F S1x16384 .f32) (v842 : FVec F S1x16384 .f32) (v902 : FVec F S8x256 .f32) (v994 : FVec F S1x16384 .f32) (v1060 : IVec S8x256 1), FVec F S8x256 .f32 :=
  ⟨stRow C 0 (G 0) (stAt K b C G nrm 0), stRow C 1 (G 1) (stAt K b C G nrm 1), stRow C 2 (G 2) (stAt K b C G nrm 2),
    stRow C 3 (G 3) (stAt K b C G nrm 3), stRow C 4 (G 4) (stAt K b C G nrm 4), stRow C 5 (G 5) (stAt K b C G nrm 5),
    stRow C 6 (G 6) (stAt K b C G nrm 6), (stAt K b C G nrm 7).out, stRow C 7 (G 7) (stAt K b C G nrm 7),
    cmpi .eq rowNo (broadcast S8x256 7#32),
    broadcastTo S8x256 (shapeCast S1x256 (stAcc K (stRead C 7 (G 7) (stAt K b C G nrm 7)) (stWs (stAt K b C G nrm 7))) shapeCasts_S1x256_S1x256)
      broadcasts_S1x256_S8x256⟩

set_option maxRecDepth 100000 in
theorem part22_eq (i : grid0.Coords) (arg1 : Memref sig .tc .smem S1x1 .f32) (harg1 : arg1.IsWhole) (arg2 : Memref sig .tc .vmem S8x256 .f32) (harg2 : arg2.IsWhole) (arg3 : Memref sig .tc .vmem S256x4096 .f32) (harg3 : arg3.IsWhole) (arg4 : Memref sig .tc .vmem S8x256 .f32) (harg4 : arg4.IsWhole) (arg5 : Memref sig .tc .vmem S256x16384 .f32) (harg5 : arg5.IsWhole) (arg6 : Memref sig .tc .vmem S8x8x2048 .f32) (harg6 : arg6.IsWhole) (arg7 : Memref sig .tc .vmem S8x2048 .f32) (harg7 : arg7.IsWhole) (arg8 : DmaSems sig S_) :
    k0_part22_skel (F := F) i arg1 harg1 arg2 harg2 arg3 harg3 arg4 harg4 arg5 harg5 arg6 harg6 arg7 harg7 arg8 = (do
      let v6 : Vec F S8x256 .f32 ← Prog.lift (.load arg2 (Rect.unit (s := S8x256) ![0, 0] S8x256.size inb_S8x256_S8x256_0_0).toLoadRect (View.loadsAt_vmem h_S8x256))
      let v8 : Elt F .f32 ← smemLoad arg1 (Rect.unit (s := S1x1) ![0, 0] S1x1.size inb_S1x1_S1x1_0_0) numel1_S1x1 rfl
      let v13 : Vec F S1x8x2048 .f32 ← Prog.lift (.load arg6 (Rect.unit (s := S8x8x2048) ![0, 0, 0] S1x8x2048.size inb_S8x8x2048_S1x8x2048_0_0_0).toLoadRect (View.loadsAt_vmem h_S1x8x2048))
      let v15 : Vec F S1x8x2048 .f32 ← Prog.lift (.load arg6 (Rect.unit (s := S8x8x2048) ![1, 0, 0] S1x8x2048.size inb_S8x8x2048_S1x8x2048_1_0_0).toLoadRect (View.loadsAt_vmem h_S1x8x2048))
      let v17 : Vec F S1x8x2048 .f32 ← Prog.lift (.load arg6 (Rect.unit (s := S8x8x2048) ![2, 0, 0] S1x8x2048.size inb_S8x8x2048_S1x8x2048_2_0_0).toLoadRect (View.loadsAt_vmem h_S1x8x2048))
      let v19 : Vec F S1x8x2048 .f32 ← Prog.lift (.load arg6 (Rect.unit (s := S8x8x2048) ![3, 0, 0] S1x8x2048.size inb_S8x8x2048_S1x8x2048_3_0_0).toLoadRect (View.loadsAt_vmem h_S1x8x2048))
      let v21 : Vec F S1x8x2048 .f32 ← Prog.lift (.load arg6 (Rect.unit (s := S8x8x2048) ![4, 0, 0] S1x8x2048.size inb_S8x8x2048_S1x8x2048_4_0_0).toLoadRect (View.loadsAt_vmem h_S1x8x2048))
      let v23 : Vec F S1x8x2048 .f32 ← Prog.lift (.load arg6 (Rect.unit (s := S8x8x2048) ![5, 0, 0] S1x8x2048.size inb_S8x8x2048_S1x8x2048_5_0_0).toLoadRect (View.loadsAt_vmem h_S1x8x2048))
      let v25 : Vec F S1x8x2048 .f32 ← Prog.lift (.load arg6 (Rect.unit (s := S8x8x2048) ![6, 0, 0] S1x8x2048.size inb_S8x8x2048_S1x8x2048_6_0_0).toLoadRect (View.loadsAt_vmem h_S1x8x2048))
      let v27 : Vec F S1x8x2048 .f32 ← Prog.lift (.load arg6 (Rect.unit (s := S8x8x2048) ![7, 0, 0] S1x8x2048.size inb_S8x8x2048_S1x8x2048_7_0_0).toLoadRect (View.loadsAt_vmem h_S1x8x2048))
      let v29 : Vec F S8x2048 .f32 ← Prog.lift (.load arg7 (Rect.unit (s := S8x2048) ![0, 0] S8x2048.size inb_S8x2048_S8x2048_0_0).toLoadRect (View.loadsAt_vmem h_S8x2048))
      pure (passTuple (k0_pay9 v6) (k0_pay10 v8) (k0_pay11 v6) (gOf v13 v15 v17 v19 v21 v23 v25 v27) v29)) := by
  sl_kernel_rfl

/-- What the state pass stores: the eight weight rows times the first memory, plus the correction rows. -/
def passOut (K : FVec F S8x256 .f32) (b : F .f32) (C : FVec F S8x8 .f32) (G : Fin 8 → Cells F) (nrm : Cells F) (M : Vec F S256x16384 .f32) :
    FVec F S8x256 .f32 :=
  addf (matmul dot_S8x16384_S256x16384_S8x256_1_1_0_0_n_n none
    (concatenate S8x16384 0 [⟨S1x16384, stRow C 0 (G 0) (stAt K b C G nrm 0)⟩, ⟨S1x16384, stRow C 1 (G 1) (stAt K b C G nrm 1)⟩,
      ⟨S1x16384, stRow C 2 (G 2) (stAt K b C G nrm 2)⟩, ⟨S1x16384, stRow C 3 (G 3) (stAt K b C G nrm 3)⟩,
      ⟨S1x16384, stRow C 4 (G 4) (stAt K b C G nrm 4)⟩, ⟨S1x16384, stRow C 5 (G 5) (stAt K b C G nrm 5)⟩,
      ⟨S1x16384, stRow C 6 (G 6) (stAt K b C G nrm 6)⟩, ⟨S1x16384, stRow C 7 (G 7) (stAt K b C G nrm 7)⟩]
      concatenates_S1x16384_S1x16384_S1x16384_S1x16384_S1x16384_S1x16384_S1x16384_S1x16384_S8x16384_d0) M
    (constant S8x256 .f32 0x00000000#32)) (stAt K b C G nrm 8).out

theorem passOut_eq (K : FVec F S8x256 .f32) (b : F .f32) (C : FVec F S8x8 .f32) (G : Fin 8 → Cells F) (nrm : Cells F) (M : Vec F S256x16384 .f32) :
    k0_pay2 (passTuple K b C G nrm).1 (passTuple K b C G nrm).2.1 (passTuple K b C G nrm).2.2.1 (passTuple K b C G nrm).2.2.2.1 (passTuple K b C G nrm).2.2.2.2.1 (passTuple K b C G nrm).2.2.2.2.2.1 (passTuple K b C G nrm).2.2.2.2.2.2.1 (passTuple K b C G nrm).2.2.2.2.2.2.2.1 (passTuple K b C G nrm).2.2.2.2.2.2.2.2.1 (passTuple K b C G nrm).2.2.2.2.2.2.2.2.2.1 (passTuple K b C G nrm).2.2.2.2.2.2.2.2.2.2 M
      = passOut K b C G nrm M := by
  sl_kernel_rfl

end Cert.KernelIdeal.Hand
end
-- ==== Proof.StateRun.lean ====
module

public import proofs.«01_k».proof.Proof.TileRun
public import proofs.«01_k».proof.Proof.StatePassEq

/-
  The last grid point: it loads the scratch and stores the state pass over it.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slab of key `t` in the buffer of products. -/
def slab (g1 : Vec F S8x8x2048 .f32) (t : Fin 8) : Vec F S1x8x2048 .f32 :=
  VecWindow.window g1 ![t.val, 0, 0] S1x8x2048.size (by revert t; decide)

/-- What the state pass stores, from its windows and the three scratch buffers. -/
def stateOut (x1 : Vec F S1x1 .f32) (x2 : Vec F S8x256 .f32) (g0 : Vec F S256x16384 .f32) (g1 : Vec F S8x8x2048 .f32) (g2 : Vec F S8x2048 .f32) :
    FVec F S8x256 .f32 :=
  passOut (k0_pay9 x2) (k0_pay10 (x1 (Shape.Idx.first (by decide)))) (k0_pay11 x2)
    (gOf (slab g1 0) (slab g1 1) (slab g1 2) (slab g1 3) (slab g1 4) (slab g1 5) (slab g1 6) (slab g1 7)) g2 g0

/-- The last grid point stores the pass over its scratch. -/
theorem stateRun (c : Dev nD) (i : grid0.Coords) (h1 : ¬ k0_cond1 i = 1#1) (h2 : k0_cond2 i = 1#1)
    (arg1 : Memref sig .tc .smem S1x1 .f32) (harg1 : arg1.IsWhole) (arg2 : Memref sig .tc .vmem S8x256 .f32) (harg2 : arg2.IsWhole)
    (arg3 : Memref sig .tc .vmem S256x4096 .f32) (harg3 : arg3.IsWhole) (arg4 : Memref sig .tc .vmem S8x256 .f32) (harg4 : arg4.IsWhole)
    (x1 : Vec F S1x1 .f32) (x2 : Vec F S8x256 .f32)
    (g0 : Vec F S256x16384 .f32) (g1 : Vec F S8x8x2048 .f32) (g2 : Vec F S8x2048 .f32)
    (W : Waits sig Unit) (K : PUnit → sProp 𝕄) :
    iprop(owns (c : Thread nD τ) arg1 fullShare x1
        ∗ owns (c : Thread nD τ) arg2 fullShare x2
        ∗ (∃ d, owns (c : Thread nD τ) arg4 fullShare d)
        ∗ owns (c : Thread nD τ) scM0 fullShare g0
        ∗ owns (c : Thread nD τ) scM1 fullShare g1
        ∗ owns (c : Thread nD τ) scM2 fullShare g2
        ∗ owes (c : Thread nD τ) 0 W
        ∗ (iprop(owns (c : Thread nD τ) arg1 fullShare x1
            ∗ owns (c : Thread nD τ) arg2 fullShare x2
            ∗ owns (c : Thread nD τ) arg4 fullShare (stateOut x1 x2 g0 g1 g2)
            ∗ owns (c : Thread nD τ) scM0 fullShare g0
            ∗ owns (c : Thread nD τ) scM1 fullShare g1
            ∗ owns (c : Thread nD τ) scM2 fullShare g2
            ∗ (∃ W', owes (c : Thread nD τ) 0 W')) -∗ K ⟨⟩))
      ⊢ wp frame (wpE (defs₀ (F := F)) Variants.none c none) Set.univ
          (cc0__memory_kernel i arg1 harg1 arg2 harg2 arg3 harg3 arg4 harg4
            scM0 (Memref.isWhole_whole _) scM1 (Memref.isWhole_whole _) scM2 (Memref.isWhole_whole _) cc0_scratch3) K := by
  simp only [cc0__memory_kernel_eq_skeleton]; unfold cc0__memory_kernel_skel
  simp only [k0_part22_eq_skeleton, part22_eq]
  unfold owns
  iintro ⟨⟨%f1, %e1, H1⟩, ⟨%f2, %e2, H2⟩, ⟨%d4, %f4, -, H4⟩, ⟨%s0, %es0, HS0⟩, ⟨%s1, %es1, HS1⟩, ⟨%s2, %es2, HS2⟩, HW, Hk⟩
  sl_exec
  sl_step
  iapply Hk
  isplitl [H1]; · iexists f1; isplitr; · ipureintro; exact e1
                  iexact H1
  isplitl [H2]; · iexists f2; isplitr; · ipureintro; exact e2
                  iexact H2
  isplitl [H4]
  · iexists _; isplitr; swap; · iexact H4
    ipureintro
    sl_unfold_run_names
    rw [View.read_writes_full]
    refine (passOut_eq _ _ _ _ _ _).trans ?_
    have r1 := (View.readAt_full (Val := Elt F) arg1.view f1 inb_S1x1_S1x1_0_0).trans e1
    have r2 := (View.readAt_full (Val := Elt F) arg2.view f2 inb_S8x256_S8x256_0_0).trans e2
    have q0 := (View.readAt_full (Val := Elt F) scM0.view s0 inb_S256x16384_S256x16384_0_0).trans es0
    have q2 := (View.readAt_full (Val := Elt F) scM2.view s2 inb_S8x2048_S8x2048_0_0).trans es2
    subst es1
    refine (congr (congr (congr (congr (congr (congrArg passOut (congrArg k0_pay9 r2)) (congrArg k0_pay10 (congrFun r1 _)))
      (congrArg k0_pay11 r2)) rfl) q2) q0).trans ?_
    unfold stateOut
    congr 2
  isplitl [HS0]; · iexists s0; isplitr; · ipureintro; exact es0
                   iexact HS0
  isplitl [HS1]; · iexists s1; isplitr; · ipureintro; exact es1
                   iexact HS1
  isplitl [HS2]; · iexists s2; isplitr; · ipureintro; exact es2
                   iexact HS2
  iexists _; iexact HW

end Cert.KernelIdeal.Hand
end
-- ==== Proof.TileAcc.lean ====
module

public import proofs.«01_k».proof.Proof.StateRun

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! # The scratch buffers after the four tile passes

Whatever the scratch buffers held at first, after the four passes they hold functions of the keys and the memory alone. -/

/-- Tile `n` of the memory: columns `4096 n` and on. -/
def tile (M : Vec F S256x16384 .f32) (n : ℕ) : Vec F S256x4096 .f32 :=
  fun y => M fun a => match a with
    | ⟨0, _⟩ => ⟨(y 0).val, (y 0).isLt⟩
    | ⟨1, _⟩ => ⟨(4096 * n + (y 1).val) % 16384, Nat.mod_lt _ (by decide)⟩

/-- The copied memory after the first `n` passes over `g`. -/
def acc0 (M : Vec F S256x16384 .f32) (g : Vec F S256x16384 .f32) : ℕ → Vec F S256x16384 .f32
  | 0 => g
  | n + 1 => pass0 n (tile M n) (acc0 M g n)
/-- The products after the first `n` passes over `g`. -/
def acc1 (M : Vec F S256x16384 .f32) (K : Vec F S8x256 .f32) (g : Vec F S8x8x2048 .f32) : ℕ → Vec F S8x8x2048 .f32
  | 0 => g
  | n + 1 => pass1 n (tile M n) K (acc1 M K g n)
/-- The square norms after the first `n` passes over `g`. -/
def acc2 (M : Vec F S256x16384 .f32) (g : Vec F S8x2048 .f32) : ℕ → Vec F S8x2048 .f32
  | 0 => g
  | n + 1 => pass2 n (tile M n) (acc2 M g n)

/-- The products the passes leave: slab row `r` is the even or the odd half of tile `r / 2`'s. -/
def tot1 (M : Vec F S256x16384 .f32) (K : Vec F S8x256 .f32) : Vec F S8x8x2048 .f32 := fun y =>
  let z : S8x1x2048.Idx := fun a => match a with
    | ⟨0, _⟩ => ⟨(y 0).val, (y 0).isLt⟩
    | ⟨1, _⟩ => ⟨0, Nat.one_pos⟩
    | ⟨2, _⟩ => ⟨(y 2).val, (y 2).isLt⟩
  if (y 1).val % 2 = 0 then k0_pay4 (tile M ((y 1).val / 2)) K z else k0_pay5 (tile M ((y 1).val / 2)) K z
/-- The square norms the passes leave. -/
def tot2 (M : Vec F S256x16384 .f32) : Vec F S8x2048 .f32 := fun y =>
  let z : S1x2048.Idx := fun a => match a with
    | ⟨0, _⟩ => ⟨0, Nat.one_pos⟩
    | ⟨1, _⟩ => ⟨(y 1).val, (y 1).isLt⟩
  if (y 0).val % 2 = 0 then k0_pay7 (tile M ((y 0).val / 2)) z else k0_pay1 (k0_pay8 (tile M ((y 0).val / 2))) z

theorem acc0_done (M g : Vec F S256x16384 .f32) (n : ℕ) (hn : n ≤ 4) (y : S256x16384.Idx) (hy : (y 1).val < 4096 * n) :
    acc0 M g n y = M y := by
  induction n with
  | zero => omega
  | succ n ih =>
    unfold acc0 pass0 VecWindow.put
    have h0 : (y 0).val < 256 := (y 0).isLt
    split
    · rename_i h
      refine congrArg M (funext fun a => Fin.ext ?_)
      have hb := (h 1).1
      match a with
      | ⟨0, _⟩ => exact Nat.sub_zero _
      | ⟨1, _⟩ =>
        show (4096 * n + ((y 1).val - 4096 * n)) % 16384 = (y 1).val
        have hb' : 4096 * n ≤ (y 1).val := hb
        omega
    · rename_i h
      refine ih (by omega) ?_
      by_contra hc
      exact h fun a => match a with
        | ⟨0, _⟩ => ⟨Nat.zero_le _, by show (y 0).val < 0 + 256; omega⟩
        | ⟨1, _⟩ => ⟨by show 4096 * n ≤ (y 1).val; omega, by show (y 1).val < 4096 * n + 4096; omega⟩

theorem acc1_done (M : Vec F S256x16384 .f32) (K : Vec F S8x256 .f32) (g : Vec F S8x8x2048 .f32) (n : ℕ) (hn : n ≤ 4) (y : S8x8x2048.Idx)
    (hy : (y 1).val < 2 * n) : acc1 M K g n y = tot1 M K y := by
  induction n with
  | zero => omega
  | succ n ih =>
    unfold acc1 pass1 VecWindow.put
    have h0 : (y 0).val < 8 := (y 0).isLt
    have h2 : (y 2).val < 2048 := (y 2).isLt
    split
    · rename_i h
      have hb : 2 * n + 1 ≤ (y 1).val := (h 1).1
      have e : (y 1).val = 2 * n + 1 := by omega
      unfold tot1
      rw [if_neg (by omega), show (y 1).val / 2 = n by omega]
      refine congrArg (k0_pay5 (tile M n) K) (funext fun a => Fin.ext ?_)
      match a with
      | ⟨0, _⟩ => exact Nat.sub_zero _
      | ⟨1, _⟩ => show (y 1).val - (2 * n + 1) = 0; omega
      | ⟨2, _⟩ => exact Nat.sub_zero _
    · rename_i h
      have hlt : (y 1).val < 2 * n + 1 := by
        by_contra hc
        exact h fun a => match a with
          | ⟨0, _⟩ => ⟨Nat.zero_le _, by show (y 0).val < 0 + 8; omega⟩
          | ⟨1, _⟩ => ⟨by show 2 * n + 1 ≤ (y 1).val; omega, by show (y 1).val < 2 * n + 1 + 1; omega⟩
          | ⟨2, _⟩ => ⟨Nat.zero_le _, by show (y 2).val < 0 + 2048; omega⟩
      split
      · rename_i h'
        have hb : 2 * n ≤ (y 1).val := (h' 1).1
        unfold tot1
        rw [if_pos (by omega), show (y 1).val / 2 = n by omega]
        refine congrArg (k0_pay4 (tile M n) K) (funext fun a => Fin.ext ?_)
        match a with
        | ⟨0, _⟩ => exact Nat.sub_zero _
        | ⟨1, _⟩ => show (y 1).val - (2 * n) = 0; omega
        | ⟨2, _⟩ => exact Nat.sub_zero _
      · rename_i h'
        refine ih (by omega) ?_
        by_contra hc
        exact h' fun a => match a with
          | ⟨0, _⟩ => ⟨Nat.zero_le _, by show (y 0).val < 0 + 8; omega⟩
          | ⟨1, _⟩ => ⟨by show 2 * n ≤ (y 1).val; omega, by show (y 1).val < 2 * n + 1; omega⟩
          | ⟨2, _⟩ => ⟨Nat.zero_le _, by show (y 2).val < 0 + 2048; omega⟩

theorem acc2_done (M : Vec F S256x16384 .f32) (g : Vec F S8x2048 .f32) (n : ℕ) (hn : n ≤ 4) (y : S8x2048.Idx)
    (hy : (y 0).val < 2 * n) : acc2 M g n y = tot2 M y := by
  induction n with
  | zero => omega
  | succ n ih =>
    unfold acc2 pass2 VecWindow.put
    have h1 : (y 1).val < 2048 := (y 1).isLt
    split
    · rename_i h
      have hb : 2 * n + 1 ≤ (y 0).val := (h 0).1
      unfold tot2
      rw [if_neg (by omega), show (y 0).val / 2 = n by omega]
      refine congrArg (k0_pay1 (k0_pay8 (tile M n))) (funext fun a => Fin.ext ?_)
      match a with
      | ⟨0, _⟩ => show (y 0).val - (2 * n + 1) = 0; omega
      | ⟨1, _⟩ => exact Nat.sub_zero _
    · rename_i h
      have hlt : (y 0).val < 2 * n + 1 := by
        by_contra hc
        exact h fun a => match a with
          | ⟨0, _⟩ => ⟨by show 2 * n + 1 ≤ (y 0).val; omega, by show (y 0).val < 2 * n + 1 + 1; omega⟩
          | ⟨1, _⟩ => ⟨Nat.zero_le _, by show (y 1).val < 0 + 2048; omega⟩
      split
      · rename_i h'
        have hb : 2 * n ≤ (y 0).val := (h' 0).1
        unfold tot2
        rw [if_pos (by omega), show (y 0).val / 2 = n by omega]
        refine congrArg (k0_pay7 (tile M n)) (funext fun a => Fin.ext ?_)
        match a with
        | ⟨0, _⟩ => show (y 0).val - (2 * n) = 0; omega
        | ⟨1, _⟩ => exact Nat.sub_zero _
      · rename_i h'
        refine ih (by omega) ?_
        by_contra hc
        exact h' fun a => match a with
          | ⟨0, _⟩ => ⟨by show 2 * n ≤ (y 0).val; omega, by show (y 0).val < 2 * n + 1; omega⟩
          | ⟨1, _⟩ => ⟨Nat.zero_le _, by show (y 1).val < 0 + 2048; omega⟩

theorem acc0_four (M g : Vec F S256x16384 .f32) : acc0 M g 4 = M :=
  funext fun y => acc0_done M g 4 (le_refl _) y (y 1).isLt
theorem acc1_four (M : Vec F S256x16384 .f32) (K : Vec F S8x256 .f32) (g : Vec F S8x8x2048 .f32) : acc1 M K g 4 = tot1 M K :=
  funext fun y => acc1_done M K g 4 (le_refl _) y (y 1).isLt
theorem acc2_four (M : Vec F S256x16384 .f32) (g : Vec F S8x2048 .f32) : acc2 M g 4 = tot2 M :=
  funext fun y => acc2_done M g 4 (le_refl _) y (y 0).isLt

/-- What the kernel stores, from the write strength, the keys and the memory. -/
def kernelOut (x1 : Vec F S1x1 .f32) (K : Vec F S8x256 .f32) (M : Vec F S256x16384 .f32) : FVec F S8x256 .f32 :=
  stateOut x1 K M (tot1 M K) (tot2 M)

end Cert.KernelIdeal.Hand
end
-- ==== Proof.KernelRun.lean ====
module

public import proofs.«01_k».proof.Proof.TileAcc
public import proofs.«01_k».proof.Proof.Gen.KernelIdeal.Frame
public import Idealize.ShloMosaic.Lib.Pipeline.Value
public import Idealize.ShloMosaic.Lib.MemrefSat

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The kernel's run

The launch with its five points: four tile passes and the state pass, the scratch buffers' contents carried from point to
point. -/

/-! ## The arrays at the region -/

/-- The write strength's operand. -/
def bArr (c : Dev nD) : Vec F S1x1 .f32 := V m c main_v1
/-- The keys as rows. -/
def kArr (c : Dev nD) : Vec F S8x256 .f32 := V m c main_v0
/-- The memory at the start. -/
def mArr (c : Dev nD) : Vec F S256x16384 .f32 := V m c main_arg2

theorem index0 : ∀ t : Fin grid0.N, win0_0.index t = ![0, 0] := by decide
theorem index1 : ∀ t : Fin grid0.N, win0_1.index t = ![0, 0] := by decide
theorem index2 : ∀ t : Fin grid0.N, t.val < 4 → win0_2.index t = ![0, t.val] := by decide
theorem index3 : ∀ t : Fin grid0.N, win0_3.index t = ![0, 0] := by decide

theorem iblk0 (c : Dev nD) (t : Fin cfg0.N) : (iblk m c 0 t : S1x1.Idx → Elt F .f32) = bArr m c := by
  funext y
  show V m c main_v1 _ = V m c main_v1 y
  refine congrArg (V m c main_v1) (funext fun a => Fin.ext ?_)
  exact win0_0.rect_emb_val_of_index_zero t a (by rw [index0]; match a with | ⟨0, _⟩ => rfl | ⟨1, _⟩ => rfl) y

theorem iblk1 (c : Dev nD) (t : Fin cfg0.N) : (iblk m c 1 t : S8x256.Idx → Elt F .f32) = kArr m c := by
  funext y
  show V m c main_v0 _ = V m c main_v0 y
  refine congrArg (V m c main_v0) (funext fun a => Fin.ext ?_)
  exact win0_1.rect_emb_val_of_index_zero t a (by rw [index1]; match a with | ⟨0, _⟩ => rfl | ⟨1, _⟩ => rfl) y

theorem iblk2 (c : Dev nD) (t : Fin cfg0.N) (ht : t.val < 4) : (iblk m c 2 t : S256x4096.Idx → Elt F .f32) = tile (mArr m c) t.val := by
  funext y
  show V m c main_arg2 _ = V m c main_arg2 _
  refine congrArg (V m c main_arg2) (funext fun a => Fin.ext ?_)
  have hy : (y 1).val < 4096 := (y 1).isLt
  match a with
  | ⟨0, _⟩ => exact win0_2.rect_emb_val_of_index_zero t ⟨0, by decide⟩ (by rw [index2 t ht]; rfl) y
  | ⟨1, _⟩ =>
    refine (win0_2.rect_emb_val t y ⟨1, by decide⟩).trans ?_
    rw [index2 t ht]
    show t.val * 4096 + (y 1).val = (4096 * t.val + (y 1).val) % 16384
    omega
  | ⟨_ + 2, h⟩ => exact absurd h (Nat.not_lt.2 (Nat.le_add_left _ _))

/-! ## @main around the region, at the algebra with the transfers' counters -/

theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel's own cell, the invariant, the proof data -/

/-- The body's one transfer cell. -/
abbrev osem0 : Fin 1 → SemLoc sig := ![SemLoc.dma 5]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0) := by
  rw [Pipeline.ownSems0_eq_of_list c osem0 [0] (by decide) (by decide)]; rfl

/-- Before point `n` the scratch buffers hold what the first `n` passes (of four) made of what they held at first. -/
def inv (c : Dev nD) (n : ℕ) : sProp 𝕄 :=
  iprop((∃ g0 g1 g2, owns (c : Thread nD τ) scM0 fullShare (acc0 (mArr m c) g0 (min n 4))
      ∗ owns (c : Thread nD τ) scM1 fullShare (acc1 (mArr m c) (kArr m c) g1 (min n 4))
      ∗ owns (c : Thread nD τ) scM2 fullShare (acc2 (mArr m c) g2 (min n 4)))
    ∗ (∃ r, prngReg c r)
    ∗ semVal ((c : Thread nD τ), SemLoc.dma 5) 0)

theorem PhiD_eq (c : Dev nD) :
    (Pipeline.ΦD osem0 spec0 ∅ (V m) c : sProp 𝕄)
      = iprop(iprop((∃ d, owns (c : Thread nD τ) scM0 fullShare d) ∗ (∃ d, owns (c : Thread nD τ) scM1 fullShare d)
                ∗ (∃ d, owns (c : Thread nD τ) scM2 fullShare d))
          ∗ (∃ r, prngReg c r)
          ∗ semVal ((c : Thread nD τ), SemLoc.dma 5) 0 ∗ emp) := by
  rw [Pipeline.ΦD_eq, scopedRest0_eq, ownSems00_eq, bigSep_empty]
  simp only [scM0, scM1, scM2, owns_whole]; try rfl

theorem inv_in (c : Dev nD) : Pipeline.ΦD osem0 spec0 ∅ (V m) c ⊢ inv m c 0 := by
  rw [PhiD_eq]
  unfold inv
  iintro ⟨⟨⟨%g0, H0⟩, ⟨%g1, H1⟩, ⟨%g2, H2⟩⟩, Hg, Hq, -⟩
  isplitl [H0 H1 H2]
  · iexists g0, g1, g2
    isplitl [H0]; · iexact H0
    isplitl [H1]; · iexact H1
    iexact H2
  isplitl [Hg]; · iexact Hg
  iexact Hq

theorem inv_out (c : Dev nD) (n : ℕ) : inv m c n ⊢ Pipeline.ΦD osem0 spec0 ∅ (V m) c := by
  rw [PhiD_eq]
  unfold inv
  iintro ⟨⟨%g0, %g1, %g2, H0, H1, H2⟩, Hg, Hq⟩
  isplitl [H0 H1 H2]
  · isplitl [H0]; · iexists _; iexact H0
    isplitl [H1]; · iexists _; iexact H1
    iexists _; iexact H2
  isplitl [Hg]; · iexact Hg
  isplitl [Hq]; · iexact Hq
  iempintro

/-- The proof data: each input window keeps its block, the output window ends at the kernel's result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kernelOut (bArr m c) (kArr m c) (mArr m c)
    | ⟨_ + 4, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = kernelOut (bArr m c) (kArr m c) (mArr m c) := by dsimp only [dats]

/-! ## The body at a point -/

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it leaves, the output window in `X`. -/
def bodyPost (c : Dev nD) (t : Fin cfg0.N) (X : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ X)

theorem coords_val : ∀ t : Fin grid0.N, (grid0.coords t 0).val = t.val := by decide
theorem cond1_iff : ∀ t : Fin grid0.N, k0_cond1 (grid0.coords t) = 1#1 ↔ t.val < 4 := by decide
theorem cond2_iff : ∀ t : Fin grid0.N, k0_cond2 (grid0.coords t) = 1#1 ↔ ¬ t.val < 4 := by decide

theorem halve (c : Dev nD) (M : Memref sig .tc .vmem S256x4096 .f32) (X : Vec F S256x4096 .f32) :
    (owns (c : Thread nD τ) M fullShare X : sProp 𝕄) ⊢ iprop(owns (c : Thread nD τ) M fullShare.left X ∗ owns (c : Thread nD τ) M fullShare.right X) :=
  (owns_halves _ _ _ _).1
theorem unhalve (c : Dev nD) (M : Memref sig .tc .vmem S256x4096 .f32) (X : Vec F S256x4096 .f32) :
    iprop(owns (c : Thread nD τ) M fullShare.left X ∗ owns (c : Thread nD τ) M fullShare.right X) ⊢ (owns (c : Thread nD τ) M fullShare X : sProp 𝕄) :=
  (owns_halves _ _ _ _).2

/-- A tile pass at its point. -/
theorem sound_tile (c : Dev nD) (t : Fin cfg0.N) (ht : t.val < 4) :
    bodyPre m c t ⊢ wp frame (wpE (defs₀ (F := F)) Variants.none c none) Set.univ (bodyAt0 t)
      (fun _ => bodyPost m c t iprop(∃ d, owns (c : Thread nD τ) (st0_3 t) fullShare ((dats m 0 c).before 3 t d))) := by
  unfold bodyPre bodyPost bodyAt0
  rw [after0, after1, after2]
  simp only [before0 m (dats m 0 c) (A_eq m c 0) (after0 m c), before1 m (dats m 0 c) (A_eq m c 1) (after1 m c),
    before2 m (dats m 0 c) (A_eq m c 2) (after2 m c)]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  rw [show min t.val 4 = t.val by omega, show min (t.val + 1) 4 = t.val + 1 by omega]
  have e1 : (iblk m c 1 t : S8x256.Idx → Elt F .f32) = kArr m c := iblk1 m c t
  have e2 : (iblk m c 2 t : S256x4096.Idx → Elt F .f32) = tile (mArr m c) t.val := iblk2 m c t ht
  iintro ⟨⟨⟨%g0, %g1, %g2, HS0, HS1, HS2⟩, Hg, Hq⟩, ⟨%W, -, HW⟩, ⟨%d0, H0⟩, ⟨%d1, H1⟩, ⟨%d2, H2⟩, H3⟩
  ihave H2' := halve c (st0_2 t) (iblk m c 2 t) $$ H2
  icases H2' with ⟨H2, H2'⟩
  iapply (tileRun c (grid0.coords t) ((cond1_iff t).2 ht) (fun h => (cond2_iff t).1 h ht) _ _ _ _ _ _ _ _
    (iblk m c 1 t) (iblk m c 2 t) (acc0 (mArr m c) g0 t.val) (acc1 (mArr m c) (kArr m c) g1 t.val) (acc2 (mArr m c) g2 t.val) W _)
  isplitl [H1]; · iexact H1
  isplitl [H2]; · iexact H2
  isplitl [H2']; · iexact H2'
  isplitl [HS0]; · iexact HS0
  isplitl [HS1]; · iexact HS1
  isplitl [HS2]; · iexact HS2
  isplitl [Hq]; · iexact Hq
  isplitl [HW]; · iexact HW
  iintro ⟨H1, H2, H2', HS0, HS1, HS2, Hq, ⟨%W', HW'⟩⟩
  rw [coords_val t, e1, e2]
  isplitl [HS0 HS1 HS2 Hg Hq]
  · isplitl [HS0 HS1 HS2]
    · iexists g0, g1, g2
      isplitl [HS0]; · iexact HS0
      isplitl [HS1]; · iexact HS1
      iexact HS2
    isplitl [Hg]; · iexact Hg
    iexact Hq
  isplitl [HW']
  · iexists W'; isplitr; · ipureintro; exact fun _ _ => Or.inl trivial
    iexact HW'
  isplitl [H0]; · iexact H0
  isplitl [H1]; · iexact H1
  isplitl [H2 H2']
  · iapply (unhalve c (st0_2 t) _)
    isplitl [H2]; · iexact H2
    iexact H2'
  iexact H3

/-- The state pass at its point. -/
theorem sound_state (c : Dev nD) (t : Fin cfg0.N) (ht : ¬ t.val < 4) :
    bodyPre m c t ⊢ wp frame (wpE (defs₀ (F := F)) Variants.none c none) Set.univ (bodyAt0 t)
      (fun _ => bodyPost m c t (owns (c : Thread nD τ) (st0_3 t) fullShare ((dats m 0 c).after 3 t))) := by
  unfold bodyPre bodyPost bodyAt0
  rw [after0, after1, after2, after3]
  simp only [before0 m (dats m 0 c) (A_eq m c 0) (after0 m c), before1 m (dats m 0 c) (A_eq m c 1) (after1 m c),
    before2 m (dats m 0 c) (A_eq m c 2) (after2 m c)]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  rw [show min t.val 4 = 4 by omega, show min (t.val + 1) 4 = 4 by omega]
  simp only [acc0_four, acc1_four, acc2_four]
  have e0 : (iblk m c 0 t : S1x1.Idx → Elt F .f32) = bArr m c := iblk0 m c t
  have e1 : (iblk m c 1 t : S8x256.Idx → Elt F .f32) = kArr m c := iblk1 m c t
  iintro ⟨⟨⟨%g0, %g1, %g2, HS0, HS1, HS2⟩, Hg, Hq⟩, ⟨%W, -, HW⟩, ⟨%d0, H0⟩, ⟨%d1, H1⟩, ⟨%d2, H2⟩, ⟨%d3, H3⟩⟩
  iapply (stateRun c (grid0.coords t) (fun h => ht ((cond1_iff t).1 h)) ((cond2_iff t).2 ht) _ _ _ _ _ _ _ _
    (iblk m c 0 t) (iblk m c 1 t) (mArr m c) (tot1 (mArr m c) (kArr m c)) (tot2 (mArr m c)) W _)
  isplitl [H0]; · iexact H0
  isplitl [H1]; · iexact H1
  isplitl [H3]; · iexists _; iexact H3
  isplitl [HS0]; · iexact HS0
  isplitl [HS1]; · iexact HS1
  isplitl [HS2]; · iexact HS2
  isplitl [HW]; · iexact HW
  iintro ⟨H0, H1, H3, HS0, HS1, HS2, ⟨%W', HW'⟩⟩
  rw [e0, e1]
  isplitl [HS0 HS1 HS2 Hg Hq]
  · isplitl [HS0 HS1 HS2]
    · iexists g0, g1, g2
      isplitl [HS0]; · iexact HS0
      isplitl [HS1]; · iexact HS1
      iexact HS2
    isplitl [Hg]; · iexact Hg
    iexact Hq
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem idle3 (t : Fin cfg0.N) (ht : t.val < 4) : cfg0.idle 3 (cfg0.grid.coords t) = true := by
  revert t; decide
theorem live3 (t : Fin cfg0.N) (ht : ¬ t.val < 4) : cfg0.idle 3 (cfg0.grid.coords t) = false := by
  revert t; decide
theorem flush3 (t : Fin cfg0.N) (ht : t.val < 4) : (cfg0.win 3).flush t = false := by
  have := (flush0_3 t).not.2 (by omega)
  simpa using this

theorem body_obligation (c : Dev nD) : BodyObligation (dats (F := F) m 0 c) (defs₀ (F := F)) Variants.none () Set.univ := fun t => by
  rw [bigSep_W0, bigSep_W0, defs₀_row]
  by_cases ht : t.val < 4
  · rw [idle3 t ht, flush3 t ht]
    exact triple_restated (sound_tile m c t ht) rfl .rfl fun _ => .rfl
  · rw [live3 t ht]
    exact triple_restated (sound_state m c t ht) rfl .rfl fun _ => .rfl

/-! ## The run -/

theorem tail_sub : ∀ ops ∈ ([hostOps1] : List (List (HloOp τ sig (Elt F)))), ∀ op ∈ ops,
    op.bufs ⊆ Pipeline.tailRefsBut sig Pipeline.Prefetch.none spec0 ∅ := by
  intro ops hops op hop
  exact (sfx_sub ops hops op hop).trans (by rw [Pipeline.tailRefsBut_empty])

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 ∅ (Finset.empty_subset _) m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain' m Variants.none) (hA := A_eq m)
    (hin := fun c => inv_in m c) (hout := fun c => inv_out m c _)

/-! ## The claim's statements: the arguments, the counters, the result -/

/-- The region's output array after every point: the kernel's result. -/
theorem arr3 (c : Dev nD) : (dats m 0 c).arrAt 3 cfg0.N = (kernelOut (bArr m c) (kArr m c) (mArr m c) : S8x256.Idx → Elt F .f32) := by
  refine (dats m 0 c).arrAt_eq_of_cover 3 (kernelOut (bArr m c) (kArr m c) (mArr m c) : S8x256.Idx → Elt F .f32) (fun t hf => ?_) (fun i => ?_)
  · funext y
    show kernelOut (bArr m c) (kArr m c) (mArr m c) _ = kernelOut (bArr m c) (kArr m c) (mArr m c) _
    refine congrArg _ (funext fun a => Fin.ext ?_)
    exact (win0_3.rect_emb_val_of_index_zero t a (by rw [index3]; match a with | ⟨0, _⟩ => rfl | ⟨1, _⟩ => rfl) y).symm
  · refine ⟨t0_4, (flush0_3 t0_4).2 rfl, ?_⟩
    have e : ((cfg0.win 3).blk t0_4).view.emb (i : S8x256.Idx) = i :=
      funext fun a => Fin.ext (win0_3.rect_emb_val_of_index_zero t0_4 a (by rw [index3]; match a with | ⟨0, _⟩ => rfl | ⟨1, _⟩ => rfl) i)
    rw [← e]
    exact View.emb_mem_set _ _

/-- The program's result. -/
def resultOf (c : Dev nD) : Vec F S8x1x256 .f32 :=
  broadcastInDim S8x1x256 ![0, 2] bcast_S8x256_S8x1x256_0_2 (kernelOut (bArr m c) (kArr m c) (mArr m c))

theorem W_main_v3 (c : Dev nD) :
    Pipeline.afterTail₀ cfgs (dats m) 0 (V0 m) [hostOps1] c main_v3 = resultOf m c := by
  unfold Pipeline.afterTail₀ resultOf
  rw [← arr3 m c]
  simp only [hostOps1, List.flatten_cons, List.flatten_nil, List.append_nil, StableHlo.after_cons, StableHlo.after_nil]
  rw [StableHlo.unary_result]
  exact congrArg _ (Pipeline.withArrays_arr spec0 launch0.win.arr_inj c (V0 m c) _ 3)

/-- A buffer that no line after the region writes and no window stages ends as the region found it. -/
theorem keep_of (c : Dev nD) (b : Ref sig .tc) (hb : b ≠ main_v3) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (by
      intro op hop
      simp only [hostOps1, List.flatten_cons, List.flatten_nil, List.append_nil, List.mem_cons, List.mem_nil_iff, or_false] at hop
      subst hop
      simp only [StableHlo.unary_writes, Finset.mem_singleton]
      exact StableHlo.devRef_ne_of_ne hb),
    Pipeline.withArrays_of_ne _ c (V0 m c) _ b ha]
theorem keep0 (c : Dev nD) : Pipeline.afterTail₀ cfgs (dats m) 0 (V0 m) [hostOps1] c main_arg0 = m ((c : Thread nD τ).loc main_arg0) :=
  (keep_of m c main_arg0 (by decide) (by exact (by decide : ∀ w, Pipeline.arrRef spec0 w ≠ main_arg0))).trans (V_main_arg0 m c)
theorem keep1 (c : Dev nD) : Pipeline.afterTail₀ cfgs (dats m) 0 (V0 m) [hostOps1] c main_arg1 = m ((c : Thread nD τ).loc main_arg1) :=
  (keep_of m c main_arg1 (by decide) (by exact (by decide : ∀ w, Pipeline.arrRef spec0 w ≠ main_arg1))).trans (V_main_arg1 m c)
theorem keep3 (c : Dev nD) : Pipeline.afterTail₀ cfgs (dats m) 0 (V0 m) [hostOps1] c main_arg3 = m ((c : Thread nD τ).loc main_arg3) :=
  (keep_of m c main_arg3 (by decide) (by exact (by decide : ∀ w, Pipeline.arrRef spec0 w ≠ main_arg3))).trans (V_main_arg3 m c)
theorem keep4 (c : Dev nD) : Pipeline.afterTail₀ cfgs (dats m) 0 (V0 m) [hostOps1] c main_arg4 = m ((c : Thread nD τ).loc main_arg4) :=
  (keep_of m c main_arg4 (by decide) (by exact (by decide : ∀ w, Pipeline.arrRef spec0 w ≠ main_arg4))).trans (V_main_arg4 m c)

/-- The run with the final contents: arguments as launched, counters at zero, the result as stated. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v3) = resultOf m c)
      ∧ r.2.sem = fun _ => 0) :=
  (θ_run defs _ _).mono (fun _ h => ⟨fun c =>
      ⟨(((h.1 c).2 main_arg0 (Pipeline.mem_restRefs_of main_arg0 (by decide) (by decide))).trans (keep0 m c)),
      (((h.1 c).2 main_arg1 (Pipeline.mem_restRefs_of main_arg1 (by decide) (by decide))).trans (keep1 m c)),
      ((h.1 c).1 2).trans (((dats m 0 c).arrAt_in 2 rfl _).trans ((A_eq m c 2).trans (V_main_arg2 m c))),
      (((h.1 c).2 main_arg3 (Pipeline.mem_restRefs_of main_arg3 (by decide) (by decide))).trans (keep3 m c)),
      (((h.1 c).2 main_arg4 (Pipeline.mem_restRefs_of main_arg4 (by decide) (by decide))).trans (keep4 m c)),
      (((h.1 c).2 main_v3 (Pipeline.mem_restRefs_of main_v3 (by decide) (by decide))).trans (W_main_v3 m c))⟩, h.2⟩) (run_main m ρ)

/-- The frame: the program ends, its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_value m ρ)

end Cert.KernelIdeal.Hand
end
-- ==== Proof.KernelBits.lean ====
module

public import proofs.«01_k».proof.Proof.KernelRun
public import proofs.«01_k».proof.Proof.Gen.Kernel
public import Idealize.ShloMosaic.PureOps.BitExact

/-
  The kernel's frame for the float words, taken from the ideal kernel's proof.
-/

@[expose] public section

set_option maxRecDepth 16384

noncomputable section

namespace Cert.Kernel.Hand

open Cert.Kernel Cert.Kernel.Gen
open Idealize.ShloMosaic Idealize.SL.Sem

/-- The printed kernel's frame: its text is the idealized kernel's, whose frame holds at every number type. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  cast (by sl_kernel_rfl) (Cert.KernelIdeal.Hand.frame (F := Bits) m ρ)

end Cert.Kernel.Hand
end
-- ==== Proof.ReferenceOps.lean ====
/- The reference's operations as lists, stretch by stretch, and which buffer each operation writes. -/
module

public import proofs.«01_k».proof.Proof.Gen.ReferenceIdeal
public import Idealize.ShloMosaic.Lib.StableHlo.RunLoop
public import Idealize.ShloMosaic.Lib.Scf.ExitTest
public import Idealize.ShloMosaic.Lib.Scf.Counter
public import Idealize.ShloMosaic.Lib.Quiescent

@[expose] public section

noncomputable section

namespace Cert.ReferenceIdeal.Hand

open Cert.ReferenceIdeal
open Cert.ReferenceIdeal.Facts₀ Cert.ReferenceIdeal.Facts
open Idealize.ShloMosaic Idealize.ShloMosaic.TcCoe
open Idealize.SL.Sem

variable {F : FTy → Type} [FloatOps F] [Cert.ReferenceIdeal.Facts]

/-- The operations before the loop. -/
abbrev preOps : List (HloOp τ sig (Elt F)) :=
  [ StableHlo.nullary main_cst (constant S_ .f32 0x00000000#32),
    StableHlo.unary main_cst main_v0 (broadcastInDim S16384 ![] bcast_S_S16384 : (⟨S_, .f32⟩ : BufTy).Contents (Elt F) → (⟨S16384, .f32⟩ : BufTy).Contents (Elt F)),
    StableHlo.nullary main_cst_0 (constant S_ .f32 0x00000000#32),
    StableHlo.unary main_cst_0 main_v1 (broadcastInDim S8x1x256 ![] bcast_S_S8x1x256 : (⟨S_, .f32⟩ : BufTy).Contents (Elt F) → (⟨S8x1x256, .f32⟩ : BufTy).Contents (Elt F)),
    StableHlo.nullary main_c (constantI S_ 32 0#32),
    StableHlo.unary main_arg0 main_v2_0 id,
    StableHlo.unary main_arg4 main_v2_1 id,
    StableHlo.unary main_c main_v2_2 id,
    StableHlo.unary main_arg2 main_v2_3 id,
    StableHlo.unary main_v0 main_v2_4 id,
    StableHlo.unary main_v0 main_v2_5 id,
    StableHlo.unary main_v0 main_v2_6 id,
    StableHlo.unary main_v1 main_v2_7 id ]

/-- The loop's condition: its bound, and the counter compared with it. -/
abbrev condOps : List (HloOp τ sig (Elt F)) :=
  [ StableHlo.nullary main_while0c_c_8 (constantI S_ 32 8#32),
    StableHlo.binary main_v2_2 main_while0c_c_8 main_while0c_v3 (cmpi .slt : (⟨S_, .i32⟩ : BufTy).Contents (Elt F) → (⟨S_, .i32⟩ : BufTy).Contents (Elt F) → (⟨S_, .i1⟩ : BufTy).Contents (Elt F)) ]

/-- Reading the step's key out of the sequence. -/
abbrev keyOps : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S8x1x256, .f32⟩) ![(.of main_v2_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x1x256, .f32⟩) (fun x i => Host.dynamicSlice S1x1x256 x (fun k => (i k (Shape.Idx.first h_S_)).toInt) sliceFits_S8x1x256_S1x1x256),
    StableHlo.TRef.reshape (.of main_while0b_call0_v0 : StableHlo.TRef sig ⟨S1x1x256, .f32⟩) (.of main_while0b_v3 : StableHlo.TRef sig ⟨S1x256, .f32⟩) (rfl : (.f32 : EltTy) = .f32) shapeCasts_S1x1x256_S1x256 ]

/-- The cosine of the key with every memory column. -/
abbrev cosOps : List (HloOp τ sig (Elt F)) :=
  [ StableHlo.binary main_while0b_v3 main_v2_3 main_while0b_v4 ((fun l r => Host.dotGeneral dot_S1x256_S256x16384_S1x16384_1_0_0_1_n_n none l r) : (⟨S1x256, .f32⟩ : BufTy).Contents (Elt F) → (⟨S256x16384, .f32⟩ : BufTy).Contents (Elt F) → (⟨S1x16384, .f32⟩ : BufTy).Contents (Elt F)),
    StableHlo.TRef.binary (.of main_while0b_v3 : StableHlo.TRef sig ⟨S1x256, .f32⟩) (.of main_while0b_v3 : StableHlo.TRef sig ⟨S1x256, .f32⟩) (.of main_while0b_call1_v0 : StableHlo.TRef sig ⟨S1x256, .f32⟩) mulf,
    StableHlo.TRef.nullary (.of main_while0b_call1_cst : StableHlo.TRef sig ⟨S_, .f32⟩) (constant S_ .f32 0x00000000#32),
    StableHlo.TRef.binary (.of main_while0b_call1_v0 : StableHlo.TRef sig ⟨S1x256, .f32⟩) (.of main_while0b_call1_cst : StableHlo.TRef sig ⟨S_, .f32⟩) (.of main_while0b_call1_v1 : StableHlo.TRef sig ⟨S1, .f32⟩) (fun x v => Host.reduceAdd x v reducesTo_S1x256_S1_d1 h_S_),
    StableHlo.TRef.unary (.of main_while0b_call1_v1 : StableHlo.TRef sig ⟨S1, .f32⟩) (.of main_while0b_call1_v2 : StableHlo.TRef sig ⟨S1x1, .f32⟩) (broadcastInDim S1x1 ![0] bcast_S1_S1x1_0),
    StableHlo.TRef.unary (.of main_while0b_call1_v2 : StableHlo.TRef sig ⟨S1x1, .f32⟩) (.of main_while0b_v5 : StableHlo.TRef sig ⟨S1x1, .f32⟩) Host.sqrt,
    StableHlo.TRef.binary (.of main_v2_3 : StableHlo.TRef sig ⟨S256x16384, .f32⟩) (.of main_v2_3 : StableHlo.TRef sig ⟨S256x16384, .f32⟩) (.of main_while0b_call2_v0 : StableHlo.TRef sig ⟨S256x16384, .f32⟩) mulf,
    StableHlo.TRef.nullary (.of main_while0b_call2_cst : StableHlo.TRef sig ⟨S_, .f32⟩) (constant S_ .f32 0x00000000#32),
    StableHlo.TRef.binary (.of main_while0b_call2_v0 : StableHlo.TRef sig ⟨S256x16384, .f32⟩) (.of main_while0b_call2_cst : StableHlo.TRef sig ⟨S_, .f32⟩) (.of main_while0b_call2_v1 : StableHlo.TRef sig ⟨S16384, .f32⟩) (fun x v => Host.reduceAdd x v reducesTo_S256x16384_S16384_d0 h_S_),
    StableHlo.TRef.unary (.of main_while0b_call2_v1 : StableHlo.TRef sig ⟨S16384, .f32⟩) (.of main_while0b_call2_v2 : StableHlo.TRef sig ⟨S1x16384, .f32⟩) (broadcastInDim S1x16384 ![1] bcast_S16384_S1x16384_1),
    StableHlo.TRef.unary (.of main_while0b_call2_v2 : StableHlo.TRef sig ⟨S1x16384, .f32⟩) (.of main_while0b_v6 : StableHlo.TRef sig ⟨S1x16384, .f32⟩) Host.sqrt,
    StableHlo.unary main_while0b_v5 main_while0b_v7 (broadcastInDim S1x16384 ![0, 1] bcast_S1x1_S1x16384_0_1 : (⟨S1x1, .f32⟩ : BufTy).Contents (Elt F) → (⟨S1x16384, .f32⟩ : BufTy).Contents (Elt F)),
    StableHlo.binary main_while0b_v7 main_while0b_v6 main_while0b_v8 (mulf : (⟨S1x16384, .f32⟩ : BufTy).Contents (Elt F) → (⟨S1x16384, .f32⟩ : BufTy).Contents (Elt F) → (⟨S1x16384, .f32⟩ : BufTy).Contents (Elt F)),
    StableHlo.binary main_while0b_v4 main_while0b_v8 main_while0b_v9 (Host.divf : (⟨S1x16384, .f32⟩ : BufTy).Contents (Elt F) → (⟨S1x16384, .f32⟩ : BufTy).Contents (Elt F) → (⟨S1x16384, .f32⟩ : BufTy).Contents (Elt F)) ]

/-- The read weights: the softmax of the cosines. -/
abbrev softOps : List (HloOp τ sig (Elt F)) :=
  [ StableHlo.nullary main_while0b_cst_8 (constant S_ .f32 0xFF800000#32),
    StableHlo.binary main_while0b_v9 main_while0b_cst_8 main_while0b_v10 ((fun x v => Host.reduce FloatOps.maximumf x v reducesTo_S1x16384_S1_d1 h_S_) : (⟨S1x16384, .f32⟩ : BufTy).Contents (Elt F) → (⟨S_, .f32⟩ : BufTy).Contents (Elt F) → (⟨S1, .f32⟩ : BufTy).Contents (Elt F)),
    StableHlo.nullary main_while0b_cst_9 (constant S_ .f32 0xFF800000#32),
    StableHlo.unary main_while0b_cst_9 main_while0b_v11 (broadcastInDim S1 ![] bcast_S_S1 : (⟨S_, .f32⟩ : BufTy).Contents (Elt F) → (⟨S1, .f32⟩ : BufTy).Contents (Elt F)),
    StableHlo.binary main_while0b_v11 main_while0b_v10 main_while0b_v12 (maximumf : (⟨S1, .f32⟩ : BufTy).Contents (Elt F) → (⟨S1, .f32⟩ : BufTy).Contents (Elt F) → (⟨S1, .f32⟩ : BufTy).Contents (Elt F)),
    StableHlo.unary main_while0b_v12 main_while0b_v13 (broadcastInDim S1x1 ![0] bcast_S1_S1x1_0 : (⟨S1, .f32⟩ : BufTy).Contents (Elt F) → (⟨S1x1, .f32⟩ : BufTy).Contents (Elt F)),
    StableHlo.unary main_while0b_v13 main_while0b_v14 (broadcastInDim S1x16384 ![0, 1] bcast_S1x1_S1x16384_0_1 : (⟨S1x1, .f32⟩ : BufTy).Contents (Elt F) → (⟨S1x16384, .f32⟩ : BufTy).Contents (Elt F)),
    StableHlo.binary main_while0b_v9 main_while0b_v14 main_while0b_v15 (subf : (⟨S1x16384, .f32⟩ : BufTy).Contents (Elt F) → (⟨S1x16384, .f32⟩ : BufTy).Contents (Elt F) → (⟨S1x16384, .f32⟩ : BufTy).Contents (Elt F)),
    StableHlo.unary main_while0b_v15 main_while0b_v16 (Host.exp : (⟨S1x16384, .f32⟩ : BufTy).Contents (Elt F) → (⟨S1x16384, .f32⟩ : BufTy).Contents (Elt F)),
    StableHlo.nullary main_while0b_cst_10 (constant S_ .f32 0x00000000#32),
    StableHlo.binary main_while0b_v16 main_while0b_cst_10 main_while0b_v17 ((fun x v => Host.reduceAdd x v reducesTo_S1x16384_S1_d1 h_S_) : (⟨S1x16384, .f32⟩ : BufTy).Contents (Elt F) → (⟨S_, .f32⟩ : BufTy).Contents (Elt F) → (⟨S1, .f32⟩ : BufTy).Contents (Elt F)),
    StableHlo.unary main_while0b_v17 main_while0b_v18 (broadcastInDim S1x1 ![0] bcast_S1_S1x1_0 : (⟨S1, .f32⟩ : BufTy).Contents (Elt F) → (⟨S1x1, .f32⟩ : BufTy).Contents (Elt F)),
    StableHlo.unary main_while0b_v18 main_while0b_v19 (broadcastInDim S1x16384 ![0, 1] bcast_S1x1_S1x16384_0_1 : (⟨S1x1, .f32⟩ : BufTy).Contents (Elt F) → (⟨S1x16384, .f32⟩ : BufTy).Contents (Elt F)),
    StableHlo.binary main_while0b_v16 main_while0b_v19 main_while0b_v20 (Host.divf : (⟨S1x16384, .f32⟩ : BufTy).Contents (Elt F) → (⟨S1x16384, .f32⟩ : BufTy).Contents (Elt F) → (⟨S1x16384, .f32⟩ : BufTy).Contents (Elt F)),
    StableHlo.reshape main_while0b_v20 main_while0b_v21 (rfl : (.f32 : EltTy) = .f32) shapeCasts_S1x16384_S16384 ]

/-- Clearing the least used column. -/
abbrev dropOps : List (HloOp τ sig (Elt F)) :=
  [ StableHlo.TRef.nullary (.of main_while0b_call3_v0 : StableHlo.TRef sig ⟨S16384, .i32⟩) (iotaInDim S16384 32 0),
    StableHlo.TRef.nullary (.of main_while0b_call3_cst : StableHlo.TRef sig ⟨S_, .f32⟩) (constant S_ .f32 0x7F800000#32),
    StableHlo.TRef.nullary (.of main_while0b_call3_c : StableHlo.TRef sig ⟨S_, .i32⟩) (constantI S_ 32 0#32),
    StableHlo.TRef.quaternary (.of main_v2_4 : StableHlo.TRef sig ⟨S16384, .f32⟩) (.of main_while0b_call3_v0 : StableHlo.TRef sig ⟨S16384, .i32⟩) (.of main_while0b_call3_cst : StableHlo.TRef sig ⟨S_, .f32⟩) (.of main_while0b_call3_c : StableHlo.TRef sig ⟨S_, .i32⟩) (.of main_while0b_call3_v1_0 : StableHlo.TRef sig ⟨S_, .f32⟩) (fun x y u v j => (Host.argReduce reducer_argmin_f32_i32 x y u v reducesTo_S16384_S_d0 h_S_ j).1),
    StableHlo.TRef.quaternary (.of main_v2_4 : StableHlo.TRef sig ⟨S16384, .f32⟩) (.of main_while0b_call3_v0 : StableHlo.TRef sig ⟨S16384, .i32⟩) (.of main_while0b_call3_cst : StableHlo.TRef sig ⟨S_, .f32⟩) (.of main_while0b_call3_c : StableHlo.TRef sig ⟨S_, .i32⟩) (.of main_while0b_v22 : StableHlo.TRef sig ⟨S_, .i32⟩) (fun x y u v j => (Host.argReduce reducer_argmin_f32_i32 x y u v reducesTo_S16384_S_d0 h_S_ j).2),
    StableHlo.nullary main_while0b_c_11 (constantI S_ 32 0#32),
    StableHlo.binary main_while0b_v22 main_while0b_c_11 main_while0b_v23 (cmpi .slt : (⟨S_, .i32⟩ : BufTy).Contents (Elt F) → (⟨S_, .i32⟩ : BufTy).Contents (Elt F) → (⟨S_, .i1⟩ : BufTy).Contents (Elt F)),
    StableHlo.nullary main_while0b_c_12 (constantI S_ 32 16384#32),
    StableHlo.binary main_while0b_v22 main_while0b_c_12 main_while0b_v24 (addi : (⟨S_, .i32⟩ : BufTy).Contents (Elt F) → (⟨S_, .i32⟩ : BufTy).Contents (Elt F) → (⟨S_, .i32⟩ : BufTy).Contents (Elt F)),
    StableHlo.ternary main_while0b_v23 main_while0b_v24 main_while0b_v22 main_while0b_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v25 main_while0b_v26 (broadcastInDim S1 ![] bcast_S_S1 : (⟨S_, .i32⟩ : BufTy).Contents (Elt F) → (⟨S1, .i32⟩ : BufTy).Contents (Elt F)),
    StableHlo.nullary main_while0b_cst_13 (constant S_ .f32 0x00000000#32),
    StableHlo.unary main_while0b_cst_13 main_while0b_v27 (broadcastInDim S256 ![] bcast_S_S256 : (⟨S_, .f32⟩ : BufTy).Contents (Elt F) → (⟨S256, .f32⟩ : BufTy).Contents (Elt F)),
    StableHlo.ternary main_v2_3 main_while0b_v26 main_while0b_v27 main_while0b_v28 ((fun x i u => Host.scatter scatter_S256x16384_S1_S256_0_1_1_0 (fun _ b => b) x i u) : (⟨S256x16384, .f32⟩ : BufTy).Contents (Elt F) → (⟨S1, .i32⟩ : BufTy).Contents (Elt F) → (⟨S256, .f32⟩ : BufTy).Contents (Elt F) → (⟨S256x16384, .f32⟩ : BufTy).Contents (Elt F)) ]

/-- The new usage weights. -/
abbrev useOps : List (HloOp τ sig (Elt F)) :=
  [ StableHlo.nullary main_while0b_cst_14 (constant S_ .f32 0x3F733333#32),
    StableHlo.unary main_while0b_cst_14 main_while0b_v29 (broadcastInDim S16384 ![] bcast_S_S16384 : (⟨S_, .f32⟩ : BufTy).Contents (Elt F) → (⟨S16384, .f32⟩ : BufTy).Contents (Elt F)),
    StableHlo.binary main_while0b_v29 main_v2_4 main_while0b_v30 (mulf : (⟨S16384, .f32⟩ : BufTy).Contents (Elt F) → (⟨S16384, .f32⟩ : BufTy).Contents (Elt F) → (⟨S16384, .f32⟩ : BufTy).Contents (Elt F)),
    StableHlo.binary main_while0b_v30 main_while0b_v21 main_while0b_v31 (addf : (⟨S16384, .f32⟩ : BufTy).Contents (Elt F) → (⟨S16384, .f32⟩ : BufTy).Contents (Elt F) → (⟨S16384, .f32⟩ : BufTy).Contents (Elt F)),
    StableHlo.binary main_while0b_v31 main_v2_5 main_while0b_v32 (addf : (⟨S16384, .f32⟩ : BufTy).Contents (Elt F) → (⟨S16384, .f32⟩ : BufTy).Contents (Elt F) → (⟨S16384, .f32⟩ : BufTy).Contents (Elt F)) ]

/-- The new write weights. -/
abbrev writeOps : List (HloOp τ sig (Elt F)) :=
  [ StableHlo.unary main_v2_1 main_while0b_v33 (Host.negf : (⟨S_, .f32⟩ : BufTy).Contents (Elt F) → (⟨S_, .f32⟩ : BufTy).Contents (Elt F)),
    StableHlo.unary main_while0b_v33 main_while0b_v34 (Host.exp : (⟨S_, .f32⟩ : BufTy).Contents (Elt F) → (⟨S_, .f32⟩ : BufTy).Contents (Elt F)),
    StableHlo.nullary main_while0b_cst_15 (constant S_ .f32 0x3F800000#32),
    StableHlo.binary main_while0b_cst_15 main_while0b_v34 main_while0b_v35 (addf : (⟨S_, .f32⟩ : BufTy).Contents (Elt F) → (⟨S_, .f32⟩ : BufTy).Contents (Elt F) → (⟨S_, .f32⟩ : BufTy).Contents (Elt F)),
    StableHlo.nullary main_while0b_cst_16 (constant S_ .f32 0x3F800000#32),
    StableHlo.binary main_while0b_cst_16 main_while0b_v35 main_while0b_v36 (Host.divf : (⟨S_, .f32⟩ : BufTy).Contents (Elt F) → (⟨S_, .f32⟩ : BufTy).Contents (Elt F) → (⟨S_, .f32⟩ : BufTy).Contents (Elt F)),
    StableHlo.nullary main_while0b_cst_17 (constant S_ .f32 0x00000000#32),
    StableHlo.binary main_while0b_v21 main_while0b_cst_17 main_while0b_v37 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_while0b_cst_18 (constant S_ .f32 0x46800000#32),
    StableHlo.binary main_while0b_v37 main_while0b_cst_18 main_while0b_v38 (Host.divf : (⟨S_, .f32⟩ : BufTy).Contents (Elt F) → (⟨S_, .f32⟩ : BufTy).Contents (Elt F) → (⟨S_, .f32⟩ : BufTy).Contents (Elt F)),
    StableHlo.binary main_while0b_v36 main_while0b_v38 main_while0b_v39 (mulf : (⟨S_, .f32⟩ : BufTy).Contents (Elt F) → (⟨S_, .f32⟩ : BufTy).Contents (Elt F) → (⟨S_, .f32⟩ : BufTy).Contents (Elt F)),
    StableHlo.nullary main_while0b_cst_19 (constant S_ .f32 0x3F800000#32),
    StableHlo.binary main_while0b_cst_19 main_while0b_v36 main_while0b_v40 (subf : (⟨S_, .f32⟩ : BufTy).Contents (Elt F) → (⟨S_, .f32⟩ : BufTy).Contents (Elt F) → (⟨S_, .f32⟩ : BufTy).Contents (Elt F)),
    StableHlo.unary main_while0b_v40 main_while0b_v41 (broadcastInDim S16384 ![] bcast_S_S16384 : (⟨S_, .f32⟩ : BufTy).Contents (Elt F) → (⟨S16384, .f32⟩ : BufTy).Contents (Elt F)),
    StableHlo.binary main_while0b_v41 main_v2_6 main_while0b_v42 (mulf : (⟨S16384, .f32⟩ : BufTy).Contents (Elt F) → (⟨S16384, .f32⟩ : BufTy).Contents (Elt F) → (⟨S16384, .f32⟩ : BufTy).Contents (Elt F)),
    StableHlo.unary main_while0b_v39 main_while0b_v43 (broadcastInDim S16384 ![] bcast_S_S16384 : (⟨S_, .f32⟩ : BufTy).Contents (Elt F) → (⟨S16384, .f32⟩ : BufTy).Contents (Elt F)),
    StableHlo.binary main_while0b_v43 main_while0b_v42 main_while0b_v44 (addf : (⟨S16384, .f32⟩ : BufTy).Contents (Elt F) → (⟨S16384, .f32⟩ : BufTy).Contents (Elt F) → (⟨S16384, .f32⟩ : BufTy).Contents (Elt F)) ]

/-- The new least-used indicator. -/
abbrev leastOps : List (HloOp τ sig (Elt F)) :=
  [ StableHlo.TRef.nullary (.of main_while0b_call4_v0 : StableHlo.TRef sig ⟨S16384, .i32⟩) (iotaInDim S16384 32 0),
    StableHlo.TRef.nullary (.of main_while0b_call4_cst : StableHlo.TRef sig ⟨S_, .f32⟩) (constant S_ .f32 0x7F800000#32),
    StableHlo.TRef.nullary (.of main_while0b_call4_c : StableHlo.TRef sig ⟨S_, .i32⟩) (constantI S_ 32 0#32),
    StableHlo.TRef.quaternary (.of main_while0b_v32 : StableHlo.TRef sig ⟨S16384, .f32⟩) (.of main_while0b_call4_v0 : StableHlo.TRef sig ⟨S16384, .i32⟩) (.of main_while0b_call4_cst : StableHlo.TRef sig ⟨S_, .f32⟩) (.of main_while0b_call4_c : StableHlo.TRef sig ⟨S_, .i32⟩) (.of main_while0b_call4_v1_0 : StableHlo.TRef sig ⟨S_, .f32⟩) (fun x y u v j => (Host.argReduce reducer_argmin_f32_i32 x y u v reducesTo_S16384_S_d0 h_S_ j).1),
    StableHlo.TRef.quaternary (.of main_while0b_v32 : StableHlo.TRef sig ⟨S16384, .f32⟩) (.of main_while0b_call4_v0 : StableHlo.TRef sig ⟨S16384, .i32⟩) (.of main_while0b_call4_cst : StableHlo.TRef sig ⟨S_, .f32⟩) (.of main_while0b_call4_c : StableHlo.TRef sig ⟨S_, .i32⟩) (.of main_while0b_v45 : StableHlo.TRef sig ⟨S_, .i32⟩) (fun x y u v j => (Host.argReduce reducer_argmin_f32_i32 x y u v reducesTo_S16384_S_d0 h_S_ j).2),
    StableHlo.nullary main_while0b_cst_20 (constant S_ .f32 0x00000000#32),
    StableHlo.unary main_while0b_cst_20 main_while0b_v46 (broadcastInDim S16384 ![] bcast_S_S16384 : (⟨S_, .f32⟩ : BufTy).Contents (Elt F) → (⟨S16384, .f32⟩ : BufTy).Contents (Elt F)),
    StableHlo.nullary main_while0b_c_21 (constantI S_ 32 0#32),
    StableHlo.binary main_while0b_v45 main_while0b_c_21 main_while0b_v47 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 16384#32),
    StableHlo.binary main_while0b_v45 main_while0b_c_22 main_while0b_v48 (addi : (⟨S_, .i32⟩ : BufTy).Contents (Elt F) → (⟨S_, .i32⟩ : BufTy).Contents (Elt F) → (⟨S_, .i32⟩ : BufTy).Contents (Elt F)),
    StableHlo.ternary main_while0b_v47 main_while0b_v48 main_while0b_v45 main_while0b_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v49 main_while0b_v50 (broadcastInDim S1 ![] bcast_S_S1 : (⟨S_, .i32⟩ : BufTy).Contents (Elt F) → (⟨S1, .i32⟩ : BufTy).Contents (Elt F)),
    StableHlo.nullary main_while0b_cst_23 (constant S_ .f32 0x3F800000#32),
    StableHlo.ternary main_while0b_v46 main_while0b_v50 main_while0b_cst_23 main_while0b_v51 ((fun x i u => Host.scatter scatter_S16384_S1_S__n_0_0_0 (fun _ b => b) x i u) : (⟨S16384, .f32⟩ : BufTy).Contents (Elt F) → (⟨S1, .i32⟩ : BufTy).Contents (Elt F) → (⟨S_, .f32⟩ : BufTy).Contents (Elt F) → (⟨S16384, .f32⟩ : BufTy).Contents (Elt F)) ]

/-- The row read back, and the new memory. -/
abbrev memOps : List (HloOp τ sig (Elt F)) :=
  [ StableHlo.unary main_while0b_v28 main_while0b_v52 ((transpose S16384x256 [1, 0] · transposes_S256x16384_S16384x256_1_0) : (⟨S256x16384, .f32⟩ : BufTy).Contents (Elt F) → (⟨S16384x256, .f32⟩ : BufTy).Contents (Elt F)),
    StableHlo.binary main_while0b_v21 main_while0b_v52 main_while0b_v53 ((fun l r => Host.dotGeneral dot_S16384_S16384x256_S256_0_0_n_1_n_n none l r) : (⟨S16384, .f32⟩ : BufTy).Contents (Elt F) → (⟨S16384x256, .f32⟩ : BufTy).Contents (Elt F) → (⟨S256, .f32⟩ : BufTy).Contents (Elt F)),
    StableHlo.unary main_while0b_v53 main_while0b_v54 (broadcastInDim S1x256 ![1] bcast_S256_S1x256_1 : (⟨S256, .f32⟩ : BufTy).Contents (Elt F) → (⟨S1x256, .f32⟩ : BufTy).Contents (Elt F)),
    StableHlo.unary main_while0b_v3 main_while0b_v55 ((transpose S256x1 [1, 0] · transposes_S1x256_S256x1_1_0) : (⟨S1x256, .f32⟩ : BufTy).Contents (Elt F) → (⟨S256x1, .f32⟩ : BufTy).Contents (Elt F)),
    StableHlo.unary main_while0b_v44 main_while0b_v56 (broadcastInDim S1x16384 ![1] bcast_S16384_S1x16384_1 : (⟨S16384, .f32⟩ : BufTy).Contents (Elt F) → (⟨S1x16384, .f32⟩ : BufTy).Contents (Elt F)),
    StableHlo.binary main_while0b_v55 main_while0b_v56 main_while0b_v57 ((fun l r => Host.dotGeneral dot_S256x1_S1x16384_S256x16384_1_0_0_1_n_n none l r) : (⟨S256x1, .f32⟩ : BufTy).Contents (Elt F) → (⟨S1x16384, .f32⟩ : BufTy).Contents (Elt F) → (⟨S256x16384, .f32⟩ : BufTy).Contents (Elt F)),
    StableHlo.binary main_while0b_v28 main_while0b_v57 main_while0b_v58 (addf : (⟨S256x16384, .f32⟩ : BufTy).Contents (Elt F) → (⟨S256x16384, .f32⟩ : BufTy).Contents (Elt F) → (⟨S256x16384, .f32⟩ : BufTy).Contents (Elt F)) ]

/-- Storing the row. -/
abbrev outOps : List (HloOp τ sig (Elt F)) :=
  [ StableHlo.TRef.unary (.of main_while0b_v54 : StableHlo.TRef sig ⟨S1x256, .f32⟩) (.of main_while0b_call5_v0 : StableHlo.TRef sig ⟨S1x1x256, .f32⟩) (broadcastInDim S1x1x256 ![1, 2] bcast_S1x256_S1x1x256_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v2_7 : StableHlo.TRef sig ⟨S8x1x256, .f32⟩) (.of main_while0b_call5_v0 : StableHlo.TRef sig ⟨S1x1x256, .f32⟩) ![(.of main_v2_2 : StableHlo.TRef sig ⟨S_, .i32⟩), (.of main_while0b_call5_c : StableHlo.TRef sig ⟨S_, .i32⟩), (.of main_while0b_call5_c_0 : StableHlo.TRef sig ⟨S_, .i32⟩)] (.of main_while0b_v59 : StableHlo.TRef sig ⟨S8x1x256, .f32⟩) (fun x u i => Host.dynamicUpdateSlice x u (fun k => (i k (Shape.Idx.first h_S_)).toInt) updateFits_S8x1x256_S1x1x256) ]

/-- The counter's step and the copies into the carried values. -/
abbrev copyOps : List (HloOp τ sig (Elt F)) :=
  [ StableHlo.nullary main_while0b_c_24 (constantI S_ 32 1#32),
    StableHlo.binary main_v2_2 main_while0b_c_24 main_while0b_v60 (addi : (⟨S_, .i32⟩ : BufTy).Contents (Elt F) → (⟨S_, .i32⟩ : BufTy).Contents (Elt F) → (⟨S_, .i32⟩ : BufTy).Contents (Elt F)),
    StableHlo.unary main_while0b_v60 main_v2_2 id,
    StableHlo.unary main_while0b_v58 main_v2_3 id,
    StableHlo.unary main_while0b_v32 main_v2_4 id,
    StableHlo.unary main_while0b_v44 main_v2_5 id,
    StableHlo.unary main_while0b_v51 main_v2_6 id,
    StableHlo.unary main_while0b_v59 main_v2_7 id ]

/-! ## What each stretch writes -/

/-- What `preOps` writes. -/
abbrev preOps_W : List (Ref sig .tc) := [main_cst, main_v0, main_cst_0, main_v1, main_c, main_v2_0, main_v2_1, main_v2_2, main_v2_3, main_v2_4, main_v2_5, main_v2_6, main_v2_7]
theorem preOps_writes : (preOps : List (HloOp τ sig (Elt F))).Forall fun op => op.writes ⊆ (preOps_W.map (Proc.devRef (τ := τ) .tc)).toFinset :=
  StableHlo.forall_writes_sub_of_map rfl

/-- What `condOps` writes. -/
abbrev condOps_W : List (Ref sig .tc) := [main_while0c_c_8, main_while0c_v3]
theorem condOps_writes : (condOps : List (HloOp τ sig (Elt F))).Forall fun op => op.writes ⊆ (condOps_W.map (Proc.devRef (τ := τ) .tc)).toFinset :=
  StableHlo.forall_writes_sub_of_map rfl

/-- What `keyOps` writes. -/
abbrev keyOps_W : List (Ref sig .tc) := [main_while0b_call0_c, main_while0b_call0_c_0, main_while0b_call0_v0, main_while0b_v3]
theorem keyOps_writes : (keyOps : List (HloOp τ sig (Elt F))).Forall fun op => op.writes ⊆ (keyOps_W.map (Proc.devRef (τ := τ) .tc)).toFinset :=
  StableHlo.forall_writes_sub_of_map rfl

/-- What `cosOps` writes. -/
abbrev cosOps_W : List (Ref sig .tc) := [main_while0b_v4, main_while0b_call1_v0, main_while0b_call1_cst, main_while0b_call1_v1, main_while0b_call1_v2, main_while0b_v5, main_while0b_call2_v0, main_while0b_call2_cst, main_while0b_call2_v1, main_while0b_call2_v2, main_while0b_v6, main_while0b_v7, main_while0b_v8, main_while0b_v9]
theorem cosOps_writes : (cosOps : List (HloOp τ sig (Elt F))).Forall fun op => op.writes ⊆ (cosOps_W.map (Proc.devRef (τ := τ) .tc)).toFinset :=
  StableHlo.forall_writes_sub_of_map rfl

/-- What `softOps` writes. -/
abbrev softOps_W : List (Ref sig .tc) := [main_while0b_cst_8, main_while0b_v10, main_while0b_cst_9, main_while0b_v11, main_while0b_v12, main_while0b_v13, main_while0b_v14, main_while0b_v15, main_while0b_v16, main_while0b_cst_10, main_while0b_v17, main_while0b_v18, main_while0b_v19, main_while0b_v20, main_while0b_v21]
theorem softOps_writes : (softOps : List (HloOp τ sig (Elt F))).Forall fun op => op.writes ⊆ (softOps_W.map (Proc.devRef (τ := τ) .tc)).toFinset :=
  StableHlo.forall_writes_sub_of_map rfl

/-- What `dropOps` writes. -/
abbrev dropOps_W : List (Ref sig .tc) := [main_while0b_call3_v0, main_while0b_call3_cst, main_while0b_call3_c, main_while0b_call3_v1_0, main_while0b_v22, main_while0b_c_11, main_while0b_v23, main_while0b_c_12, main_while0b_v24, main_while0b_v25, main_while0b_v26, main_while0b_cst_13, main_while0b_v27, main_while0b_v28]
theorem dropOps_writes : (dropOps : List (HloOp τ sig (Elt F))).Forall fun op => op.writes ⊆ (dropOps_W.map (Proc.devRef (τ := τ) .tc)).toFinset :=
  StableHlo.forall_writes_sub_of_map rfl

/-- What `useOps` writes. -/
abbrev useOps_W : List (Ref sig .tc) := [main_while0b_cst_14, main_while0b_v29, main_while0b_v30, main_while0b_v31, main_while0b_v32]
theorem useOps_writes : (useOps : List (HloOp τ sig (Elt F))).Forall fun op => op.writes ⊆ (useOps_W.map (Proc.devRef (τ := τ) .tc)).toFinset :=
  StableHlo.forall_writes_sub_of_map rfl

/-- What `writeOps` writes. -/
abbrev writeOps_W : List (Ref sig .tc) := [main_while0b_v33, main_while0b_v34, main_while0b_cst_15, main_while0b_v35, main_while0b_cst_16, main_while0b_v36, main_while0b_cst_17, main_while0b_v37, main_while0b_cst_18, main_while0b_v38, main_while0b_v39, main_while0b_cst_19, main_while0b_v40, main_while0b_v41, main_while0b_v42, main_while0b_v43, main_while0b_v44]
theorem writeOps_writes : (writeOps : List (HloOp τ sig (Elt F))).Forall fun op => op.writes ⊆ (writeOps_W.map (Proc.devRef (τ := τ) .tc)).toFinset :=
  StableHlo.forall_writes_sub_of_map rfl

/-- What `leastOps` writes. -/
abbrev leastOps_W : List (Ref sig .tc) := [main_while0b_call4_v0, main_while0b_call4_cst, main_while0b_call4_c, main_while0b_call4_v1_0, main_while0b_v45, main_while0b_cst_20, main_while0b_v46, main_while0b_c_21, main_while0b_v47, main_while0b_c_22, main_while0b_v48, main_while0b_v49, main_while0b_v50, main_while0b_cst_23, main_while0b_v51]
theorem leastOps_writes : (leastOps : List (HloOp τ sig (Elt F))).Forall fun op => op.writes ⊆ (leastOps_W.map (Proc.devRef (τ := τ) .tc)).toFinset :=
  StableHlo.forall_writes_sub_of_map rfl

/-- What `memOps` writes. -/
abbrev memOps_W : List (Ref sig .tc) := [main_while0b_v52, main_while0b_v53, main_while0b_v54, main_while0b_v55, main_while0b_v56, main_while0b_v57, main_while0b_v58]
theorem memOps_writes : (memOps : List (HloOp τ sig (Elt F))).Forall fun op => op.writes ⊆ (memOps_W.map (Proc.devRef (τ := τ) .tc)).toFinset :=
  StableHlo.forall_writes_sub_of_map rfl

/-- What `outOps` writes. -/
abbrev outOps_W : List (Ref sig .tc) := [main_while0b_call5_v0, main_while0b_call5_c, main_while0b_call5_c_0, main_while0b_v59]
theorem outOps_writes : (outOps : List (HloOp τ sig (Elt F))).Forall fun op => op.writes ⊆ (outOps_W.map (Proc.devRef (τ := τ) .tc)).toFinset :=
  StableHlo.forall_writes_sub_of_map rfl

/-- What `copyOps` writes. -/
abbrev copyOps_W : List (Ref sig .tc) := [main_while0b_c_24, main_while0b_v60, main_v2_2, main_v2_3, main_v2_4, main_v2_5, main_v2_6, main_v2_7]
theorem copyOps_writes : (copyOps : List (HloOp τ sig (Elt F))).Forall fun op => op.writes ⊆ (copyOps_W.map (Proc.devRef (τ := τ) .tc)).toFinset :=
  StableHlo.forall_writes_sub_of_map rfl

end Cert.ReferenceIdeal.Hand

end
-- ==== Proof.ReferenceRun.lean ====
/- The reference's execution: its loop runs eight trips, its arguments are left as they were, and its result is the eighth trip's. -/
module

public import proofs.«01_k».proof.Proof.ReferenceOps

@[expose] public section

noncomputable section

namespace Cert.ReferenceIdeal.Hand

open Cert.ReferenceIdeal
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F] [Cert.ReferenceIdeal.Facts]

/-- The stretches of the loop's body. -/
abbrev bodyI : List (List (HloOp τ sig (Elt F))) :=
  [keyOps, cosOps, softOps, dropOps, useOps, writeOps, leastOps, memOps, outOps, copyOps]

theorem plain_pre : Plain ([preOps] : List (List (HloOp τ sig (Elt F)))) := by
  refine .cons ?_ .nil
  simp [List.Forall]
theorem plain_body : Plain (bodyI (F := F)) := by
  refine .cons ?_ <| .cons ?_ <| .cons ?_ <| .cons ?_ <| .cons ?_ <| .cons ?_ <| .cons ?_ <| .cons ?_ <| .cons ?_ <| .cons ?_ .nil <;>
    simp [List.Forall]

theorem main_eq (c : Dev nD) : main (F := F) c
    = Pipeline.chain (([preOps].map fun ops => (seq ops : Prog _ PUnit)) ++ HostLoop.enter 0 :: ([] : List (List (HloOp τ sig (Elt F)))).map fun ops => (seq ops : Prog _ PUnit)) := by
  chain_rfl
theorem body_eq : main_while0_body (F := F) = Pipeline.chain (bodyI.map fun ops => (seq ops : Prog _ PUnit)) := by
  chain_rfl

variable (m : (ℓ : Loc nD τ sig) → Buf (Elt F) ℓ)

/-- The contents before the `k`-th test of the loop's condition. -/
abbrev trip (k : ℕ) (c : Dev nD) : Valuation τ sig (Elt F) := atTrip condOps bodyI (entryContents [preOps] m) k c

/-- One trip's contents, stretch by stretch. -/
theorem trip_succ (k : ℕ) (c : Dev nD) : trip m (k + 1) c
    = after copyOps (after outOps (after memOps (after leastOps (after writeOps (after useOps (after dropOps (after softOps (after cosOps
        (after keyOps (after condOps (trip m k c))))))))))) := rfl

/-- A buffer written in the loop by the last copies only, if at all, reaches them as it entered the trip. -/
theorem kept (V : Valuation τ sig (Elt F)) (r : Ref sig .tc)
    (h : r ∉ condOps_W ++ keyOps_W ++ cosOps_W ++ softOps_W ++ dropOps_W ++ useOps_W ++ writeOps_W ++ leastOps_W ++ memOps_W ++ outOps_W) :
    after outOps (after memOps (after leastOps (after writeOps (after useOps (after dropOps (after softOps (after cosOps
        (after keyOps (after condOps V))))))))) (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  rw [after_of_writes_sub _ _ outOps_writes h9, after_of_writes_sub _ _ memOps_writes h8, after_of_writes_sub _ _ leastOps_writes h7,
    after_of_writes_sub _ _ writeOps_writes h6, after_of_writes_sub _ _ useOps_writes h5, after_of_writes_sub _ _ dropOps_writes h4,
    after_of_writes_sub _ _ softOps_writes h3, after_of_writes_sub _ _ cosOps_writes h2, after_of_writes_sub _ _ keyOps_writes h1,
    after_of_writes_sub _ _ condOps_writes h0]

/-- A buffer no trip writes. -/
theorem trip_kept (r : Ref sig .tc)
    (h : r ∉ condOps_W ++ keyOps_W ++ cosOps_W ++ softOps_W ++ dropOps_W ++ useOps_W ++ writeOps_W ++ leastOps_W ++ memOps_W ++ outOps_W)
    (h' : r ∉ copyOps_W) (c : Dev nD) : ∀ k, trip m k c (Proc.devRef .tc r) = trip m 0 c (Proc.devRef .tc r)
  | 0 => rfl
  | k + 1 => by
    rw [trip_succ, after_of_writes_sub _ _ copyOps_writes h', kept _ _ h]
    exact trip_kept r h h' c k

theorem trip_zero (c : Dev nD) : trip m 0 c = after preOps (launchContents m c) := rfl

/-- The trip counter. -/
theorem trip_counter (c : Dev nD) : ∀ k, trip m k c (Proc.devRef .tc main_v2_2) = fun _ => Scf.iv 0#32 1#32 k
  | 0 => by
    rw [trip_zero, Scf.iv_zero]
    after_results_simp
    rfl
  | k + 1 => by
    have h : after copyOps (after outOps (after memOps (after leastOps (after writeOps (after useOps (after dropOps (after softOps (after cosOps
        (after keyOps (after condOps (trip m k c))))))))))) (Proc.devRef .tc main_v2_2)
        = addi (trip m k c (Proc.devRef .tc main_v2_2)) (constantI S_ 32 1#32) := by
      rw [← kept (trip m k c) main_v2_2 (by decide)]
      generalize after outOps _ = X
      after_results_simp
      rfl
    rw [trip_succ, h, trip_counter c k, Scf.iv_succ]
    rfl

set_option backward.isDefEq.respectTransparency.types false in
/-- The condition holds before trips 0 … 7 and fails after the last. -/
theorem cond_spec : CondSpec (pcfgs (F := F)) defs₀ loops (main_while0_cond (F := F)) condOps bodyI (entryContents [preOps] m) 8 := by
  intro k hk c bd
  have hctr := trip_counter m c k
  unfold main_while0_cond
  simp only [bind_pure]
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v2_2 HostLoop.idx0)
        (HloOp.result _ (trip m k c) main_while0c_c_8 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

variable (ρ : Dev nD → PrngReg)

/-- What the result's buffer holds after the eighth trip. -/
def outOf (c : Dev nD) : Vec F S8x1x256 .f32 := trip m 8 c (Proc.devRef .tc main_v2_7)

/-- Every buffer at its contents after the eighth trip. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps [preOps] bodyI [] 8 m c (Proc.devRef .tc b)) :=
  run_loop pcfgs defs₀ loops main 0 main_while0_cond main_while0_body rfl [preOps] bodyI [] condOps plain_pre plain_body .nil
    main_eq body_eq 8 m ρ (cond_spec m)

/-- The final contents of a buffer that no condition writes are those before the failing test. -/
theorem final_eq (c : Dev nD) (r : Ref sig .tc) (h : r ∉ condOps_W) :
    finalContents condOps [preOps] bodyI [] 8 m c (Proc.devRef .tc r) = trip m 8 c (Proc.devRef .tc r) :=
  after_of_writes_sub _ _ condOps_writes h

theorem final_arg (c : Dev nD) (r : Ref sig .tc) (h0 : r ∉ preOps_W) (hc : r ∉ condOps_W)
    (h : r ∉ condOps_W ++ keyOps_W ++ cosOps_W ++ softOps_W ++ dropOps_W ++ useOps_W ++ writeOps_W ++ leastOps_W ++ memOps_W ++ outOps_W)
    (h' : r ∉ copyOps_W) : finalContents condOps [preOps] bodyI [] 8 m c (Proc.devRef .tc r) = m ((c.tc : Thread nD τ).loc r) := by
  rw [final_eq m c r hc, trip_kept m r h h' c 8, trip_zero, after_of_writes_sub _ _ preOps_writes h0]

/-- The arguments are left as they were, and the result's buffer holds the eighth trip's. -/
theorem run_value : θ_run (defs (F := F)) (onTc (τ := τ) (main (F := F))) ⟨m, fun _ => 0, ρ⟩
    (fun r => ∀ c : Dev nD,
      r.2.mem ((c.tc : Thread nD τ).loc main_v2_7) = outOf m c ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs _ _).mono (fun r h c =>
    ⟨(h c main_v2_7 rfl).trans (final_eq m c main_v2_7 (by decide)),
     (h c main_arg0 rfl).trans (final_arg m c main_arg0 (by decide) (by decide) (by decide) (by decide)),
     (h c main_arg1 rfl).trans (final_arg m c main_arg1 (by decide) (by decide) (by decide) (by decide)),
     (h c main_arg2 rfl).trans (final_arg m c main_arg2 (by decide) (by decide) (by decide) (by decide)),
     (h c main_arg3 rfl).trans (final_arg m c main_arg3 (by decide) (by decide) (by decide) (by decide)),
     (h c main_arg4 rfl).trans (final_arg m c main_arg4 (by decide) (by decide) (by decide) (by decide))⟩) (run_all m ρ)

/-- The arguments are left as they were, and no counter is ever raised. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems rfl _⟩) (run_value m ρ)

end Cert.ReferenceIdeal.Hand

end
-- ==== Proof.RealMath.lean ====
module

public import Idealize.ShloMosaic.PureOps.Ideal
public import Mathlib.Analysis.SpecialFunctions.Exp

/-
  The memory recurrence over the reals. A memory is 256 rows by 16384 cells. One step reads it with a key, clears the cell used
  least, and writes the key into it by a row of weights. Everything is stated once here, free of the two programs; the programs'
  vectors are shown to be these rows in other modules.
-/

@[expose] public section

noncomputable section

namespace Cert.Memory

open scoped BigOperators

/-- A real number for each cell. -/
abbrev Row : Type := Fin 16384 → ℝ
/-- A key: a real number for each row of the memory. -/
abbrev Key : Type := Fin 256 → ℝ
/-- A memory. -/
abbrev Mem : Type := Fin 256 → Row

/-- `i` is the first cell at which `w` is least. -/
def FirstLeast (w : Row) (i : Fin 16384) : Prop := (∀ n, w i ≤ w n) ∧ ∀ n, w n = w i → i ≤ n

theorem exists_firstLeast (w : Row) : ∃ i, FirstLeast w i := by
  obtain ⟨m, hm⟩ := Finite.exists_min w
  classical
  let S : Finset (Fin 16384) := Finset.univ.filter fun i => w i = w m
  have hS : S.Nonempty := ⟨m, by simp [S]⟩
  have hmem := S.min'_mem hS
  have he : w (S.min' hS) = w m := by simpa [S] using hmem
  refine ⟨S.min' hS, fun n => by rw [he]; exact hm n, fun n hn => S.min'_le n ?_⟩
  simp [S, hn, he]

theorem FirstLeast.unique {w : Row} {i j : Fin 16384} (hi : FirstLeast w i) (hj : FirstLeast w j) : i = j := by
  have e : w i = w j := le_antisymm (hi.1 j) (hj.1 i)
  exact le_antisymm (hi.2 j e.symm) (hj.2 i e)

/-- The first cell at which `w` is least. -/
def least (w : Row) : Fin 16384 := (exists_firstLeast w).choose
theorem least_spec (w : Row) : FirstLeast w (least w) := (exists_firstLeast w).choose_spec
theorem FirstLeast.eq_least {w : Row} {i : Fin 16384} (h : FirstLeast w i) : i = least w := h.unique (least_spec w)

/-- One at that cell, zero elsewhere. -/
def hot (w : Row) : Row := fun n => if n = least w then 1 else 0
/-- The key's product with each cell's column. -/
def num (k : Key) (M : Mem) : Row := fun n => ∑ d, k d * M d n
/-- Each column's square norm. -/
def sq (M : Mem) : Row := fun n => ∑ d, M d n * M d n
/-- The inner product of two keys. -/
def dot (k l : Key) : ℝ := ∑ d, k d * l d
/-- The similarity of the key and each column. -/
def sim (k : Key) (M : Mem) : Row := fun n => num k M n / (Real.sqrt (dot k k) * Real.sqrt (sq M n))
/-- The similarities' exponentials over their sum. -/
def soft (s : Row) : Row := fun n => Real.exp (s n) / ∑ m, Real.exp (s m)
/-- The read weights. -/
def read (k : Key) (M : Mem) : Row := soft (sim k M)
/-- The memory with the cell at which `w` is least cleared. -/
def clear (w : Row) (M : Mem) : Mem := fun d n => if n = least w then 0 else M d n
/-- The next usage row, `g` the decay. -/
def usage (g : ℝ) (wu wr ww : Row) : Row := fun n => g * wu n + wr n + ww n
/-- The write weights, `b` the gate. -/
def write (b : ℝ) (wl : Row) : Row := fun n => b / 16384 + (1 - b) * wl n
/-- The memory with the key written into it. -/
def put (k : Key) (ww : Row) (M : Mem) : Mem := fun d n => M d n + k d * ww n
/-- What is read out. -/
def look (wr : Row) (M : Mem) : Key := fun d => ∑ n, wr n * M d n

/-- What a step carries: the memory and the usage, write and least-used rows. -/
structure State where
  M : Mem
  wu : Row
  ww : Row
  wl : Row

/-- One step. -/
def next (g b : ℝ) (k : Key) (s : State) : State where
  M := put k (write b s.wl) (clear s.wu s.M)
  wu := usage g s.wu (read k s.M) s.ww
  ww := write b s.wl
  wl := hot (usage g s.wu (read k s.M) s.ww)

/-- What the step reads out. -/
def result (k : Key) (s : State) : Key := look (read k s.M) (clear s.wu s.M)

/-- The state before step `n`. -/
def stateAt (g b : ℝ) (K : Fin 8 → Key) (M : Mem) : ℕ → State
  | 0 => ⟨M, fun _ => 0, fun _ => 0, fun _ => 0⟩
  | n + 1 => if h : n < 8 then next g b (K ⟨n, h⟩) (stateAt g b K M n) else stateAt g b K M n

theorem stateAt_succ (g b : ℝ) (K : Fin 8 → Key) (M : Mem) (n : ℕ) (h : n < 8) :
    stateAt g b K M (n + 1) = next g b (K ⟨n, h⟩) (stateAt g b K M n) := dif_pos h

theorem sum_exp_pos (s : Row) : 0 < ∑ m, Real.exp (s m) :=
  Finset.sum_pos (fun _ _ => Real.exp_pos _) ⟨0, Finset.mem_univ _⟩

/-- The read weights sum to one. -/
theorem sum_soft (s : Row) : ∑ n, soft s n = 1 := by
  simp only [soft, ← Finset.sum_div]
  exact div_self (sum_exp_pos s).ne'

/-- Taking one number off every similarity changes no weight. -/
theorem soft_sub (s : Row) (c : ℝ) : soft (fun n => s n - c) = soft s := by
  funext n
  simp only [soft, Real.exp_sub, ← Finset.sum_div]
  have := sum_exp_pos s
  have := Real.exp_pos c
  field_simp

/-! ### The memory as the first memory and the keys written since -/

/-- What a list of keys and write rows adds to the memory. -/
def added (K : Fin 8 → Key) (ws : List (Fin 8 × Row)) : Mem := fun d n => (ws.map fun p => K p.1 d * p.2 n).sum

/-- The cells a step does not clear. -/
def keep (w : Row) : Row := fun n => 1 - hot w n

theorem keep_eq (w : Row) (n : Fin 16384) : keep w n = if n = least w then 0 else 1 := by
  unfold keep hot; split <;> norm_num

theorem clear_eq (w : Row) (M : Mem) (d : Fin 256) (n : Fin 16384) : clear w M d n = M d n * keep w n := by
  rw [keep_eq]; unfold clear; split <;> simp

/-- The key's product with a memory so written. -/
theorem num_added (k : Key) (K : Fin 8 → Key) (z : Row) (M : Mem) (ws : List (Fin 8 × Row)) (n : Fin 16384) :
    num k (fun d n => z n * M d n + added K ws d n) n
      = ws.foldl (fun a p => a + dot k (K p.1) * p.2 n) (z n * num k M n) := by
  have h : ∀ (ws : List (Fin 8 × Row)) (x : ℝ), ws.foldl (fun a p => a + dot k (K p.1) * p.2 n) x
      = x + ∑ d, k d * added K ws d n := by
    intro ws
    induction ws with
    | nil => intro x; simp [added]
    | cons p ws ih =>
      intro x
      rw [List.foldl_cons, ih]
      simp only [added, List.map_cons, List.sum_cons, mul_add, Finset.sum_add_distrib, dot, Finset.sum_mul, mul_assoc]
      ring
  rw [h]
  simp only [num, mul_add, Finset.sum_add_distrib, Finset.mul_sum]
  congr 1
  exact Finset.sum_congr rfl fun d _ => by ring

/-- Clearing a cell of a memory so written. -/
theorem clear_added (w : Row) (K : Fin 8 → Key) (z : Row) (M : Mem) (ws : List (Fin 8 × Row)) :
    clear w (fun d n => z n * M d n + added K ws d n)
      = fun d n => (z n * keep w n) * M d n + added K (ws.map fun p => (p.1, fun n => p.2 n * keep w n)) d n := by
  have h : ∀ (ws : List (Fin 8 × Row)) (d : Fin 256) (n : Fin 16384),
      added K (ws.map fun p => (p.1, fun n => p.2 n * keep w n)) d n = added K ws d n * keep w n := by
    intro ws d n
    induction ws with
    | nil => simp [added]
    | cons p ws ih =>
      simp only [added, List.map_cons, List.sum_cons] at ih ⊢
      rw [ih]; ring
  funext d n
  rw [clear_eq, h]; ring

/-- Writing a key into a memory so written. -/
theorem put_added (K : Fin 8 → Key) (t : Fin 8) (ww : Row) (z : Row) (M : Mem) (ws : List (Fin 8 × Row)) :
    put (K t) ww (fun d n => z n * M d n + added K ws d n) = fun d n => z n * M d n + added K (ws ++ [(t, ww)]) d n := by
  funext d n
  simp only [put, added, List.map_append, List.sum_append, List.map_cons, List.map_nil, List.sum_cons, List.sum_nil]
  ring

/-- What is read out of a memory so written. -/
theorem look_added (wr : Row) (K : Fin 8 → Key) (z : Row) (M : Mem) (ws : List (Fin 8 × Row)) (d : Fin 256) :
    look wr (fun d n => z n * M d n + added K ws d n) d
      = (∑ n, (wr n * z n) * M d n) + ws.foldl (fun a p => a + (∑ n, wr n * p.2 n) * K p.1 d) 0 := by
  have h : ∀ (ws : List (Fin 8 × Row)) (x : ℝ), ws.foldl (fun a p => a + (∑ n, wr n * p.2 n) * K p.1 d) x
      = x + ∑ n, wr n * added K ws d n := by
    intro ws
    induction ws with
    | nil => intro x; simp [added]
    | cons p ws ih =>
      intro x
      rw [List.foldl_cons, ih]
      simp only [added, List.map_cons, List.sum_cons, mul_add, Finset.sum_add_distrib, Finset.sum_mul]
      rw [add_assoc]
      refine congrArg (x + ·) (congrArg₂ (· + ·) ?_ rfl)
      exact Finset.sum_congr rfl fun n _ => by ring
  rw [h, zero_add]
  simp only [look, mul_add, Finset.sum_add_distrib, mul_assoc]

/-- The square norms after clearing a cell and writing a key. -/
theorem sq_next (k : Key) (w ww : Row) (M : Mem) (n : Fin 16384) :
    sq (put k ww (clear w M)) n = keep w n * (sq M n + 2 * ww n * num k M n) + ww n * ww n * dot k k := by
  have e : ∀ d, put k ww (clear w M) d n * put k ww (clear w M) d n
      = keep w n * (M d n * M d n) + keep w n * (2 * ww n) * (k d * M d n) + ww n * ww n * (k d * k d) := by
    intro d
    have hk : keep w n * keep w n = keep w n := by rw [keep_eq]; split <;> norm_num
    simp only [put, clear_eq]
    linear_combination (M d n * M d n) * hk
  simp only [sq, num, dot, e, Finset.sum_add_distrib, ← Finset.mul_sum]
  ring

end Cert.Memory
end
-- ==== Proof.RealOps.lean ====
module

public import Idealize.ShloMosaic.PureOps.Ideal.Laws
public import Idealize.ShloMosaic.Lib.IdealHost

/-
  The scalar operations of the ideal reading on real numbers: each gives the real number one expects, where it has no corner.
  Also the programs' constants as real numbers.
-/

@[expose] public section

noncomputable section

namespace Cert.Memory

open scoped BigOperators
open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sqrt_coe (x : ℝ) (hx : 0 ≤ x) : Ideal.sqrt (x : EReal) = ((Real.sqrt x : ℝ) : EReal) := by
  show (if x < 0 then (⊥ : EReal) else (Real.sqrt x : EReal)) = _
  rw [if_neg (not_lt.2 hx)]

theorem rsqrt_coe (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 hx.le), if_neg hx.ne']

theorem exp_coe (x : ℝ) : Ideal.exp (x : EReal) = ((Real.exp x : ℝ) : EReal) := rfl

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

/-- The maximum of real numbers, taken from minus infinity, is a real number. -/
theorem fold_max_coe {ι : Type} (s : Finset ι) (hs : s.Nonempty) (f : ι → ℝ) :
    ∃ c : ℝ, s.fold max (⊥ : EReal) (fun i => ((f i : ℝ) : EReal)) = (c : EReal) := by
  classical
  induction hs using Finset.Nonempty.cons_induction with
  | singleton a => exact ⟨f a, by simp⟩
  | cons a s ha hs ih =>
    obtain ⟨c, hc⟩ := ih
    exact ⟨max (f a) c, by rw [Finset.fold_cons, hc, max_coe]⟩

/-- The logistic function's value, a real number at the infinities as well. -/
def gate (b : EReal) : ℝ := (Ideal.div 1 (1 + Ideal.exp (-b))).toReal

/-- The logistic function's value is always a real number. -/
theorem gate_coe (b : EReal) : Ideal.div 1 (1 + Ideal.exp (-b)) = ((gate b : ℝ) : EReal) := by
  have h : ∃ x : ℝ, Ideal.div 1 (1 + Ideal.exp (-b)) = (x : EReal) := by
    induction b with
    | bot =>
      rw [EReal.neg_bot, show Ideal.exp ⊤ = ⊤ from rfl, show (1 : EReal) + ⊤ = ⊤ from EReal.coe_add_top 1]
      exact ⟨0, by simp [Ideal.div]⟩
    | top =>
      rw [EReal.neg_top, show Ideal.exp ⊥ = 0 from rfl]
      exact ⟨1, by simp [Ideal.div]⟩
    | coe b => exact ⟨_, by rw [← EReal.coe_neg, exp_coe, ← EReal.coe_one, ← EReal.coe_add, div_coe _ _ (by positivity)]⟩
  obtain ⟨x, e⟩ := h
  rw [gate, e, EReal.toReal_coe]

/-- A positive normal pattern's value, from its fields. -/
theorem ofBits_normal (b : BitVec 32) (ex fr : ℕ) (hs : (b.extractLsb' 31 1 == 1#1) = false) (he : (b.extractLsb' 23 8).toNat = ex)
    (hf : (b.extractLsb' 0 23).toNat = fr) (h0 : ex ≠ 0) (h1 : ex ≠ 255) :
    Ideal.ofBits .f32 b = (((2 ^ 23 + fr : ℕ) * (2 : ℝ) ^ ((ex : ℤ) - 127 - 23) : ℝ) : EReal) := by
  show Ideal.ieee 8 23 b = _
  unfold Ideal.ieee
  simp only [hs, he, hf, h0, h1, if_false, Bool.false_eq_true, Nat.reducePow, Nat.reduceSub, one_mul, Nat.reduceAdd]
  norm_num

theorem ofBits_size : Ideal.ofBits .f32 0x46800000#32 = ((16384 : ℝ) : EReal) := by
  rw [ofBits_normal _ 141 0 (by decide) (by decide) (by decide) (by decide) (by decide)]
  norm_num

theorem ofBits_two : Ideal.ofBits .f32 0x40000000#32 = ((2 : ℝ) : EReal) := by
  rw [ofBits_normal _ 128 0 (by decide) (by decide) (by decide) (by decide) (by decide)]
  norm_num

theorem ofBits_one : Ideal.ofBits .f32 0x3F800000#32 = ((1 : ℝ) : EReal) := by
  rw [Ideal.ofBits_one_f32]; rfl

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

theorem exists_decay : ∃ g : ℝ, Ideal.ofBits .f32 0x3F733333#32 = (g : EReal) := by
  simp only [Ideal.ofBits, Ideal.ieee]
  norm_num
  exact ⟨_, rfl⟩

/-- The decay of the usage row. -/
def decay : ℝ := exists_decay.choose
theorem ofBits_decay : Ideal.ofBits .f32 0x3F733333#32 = ((decay : ℝ) : EReal) := exists_decay.choose_spec

theorem exists_floor : ∃ e : ℝ, 0 < e ∧ Ideal.ofBits .f32 0x0DA24260#32 = (e : EReal) :=
  ⟨_, by positivity, ofBits_normal _ 27 2245216 (by decide) (by decide) (by decide) (by decide) (by decide)⟩

/-- The least square norm the kernel divides by. -/
def floor : ℝ := exists_floor.choose
theorem floor_pos : 0 < floor := exists_floor.choose_spec.1
theorem ofBits_floor : Ideal.ofBits .f32 0x0DA24260#32 = ((floor : ℝ) : EReal) := exists_floor.choose_spec.2

end Cert.Memory
end
-- ==== Proof.CellReal.lean ====
module

public import proofs.«01_k».proof.Proof.StatePass
public import proofs.«01_k».proof.Proof.RealMath
public import proofs.«01_k».proof.Proof.RealOps
public import Idealize.ShloMosaic.Lib.Pointwise

/-
  The kernel's operations on rows of cells, over real numbers. The kernel keeps the 16384 cells as 8 × 2048; cell `(a, b)` is
  number `2048 a + b`.
-/

@[expose] public section

set_option maxRecDepth 16384

noncomputable section

namespace Cert.Memory

open scoped BigOperators
open Idealize.ShloMosaic Cert.KernelIdeal Cert.KernelIdeal.Gen Cert.KernelIdeal.Hand

/-- The number of a cell. -/
def flat (j : S8x2048.Idx) : Fin 16384 := ⟨2048 * (j 0).val + (j 1).val, by
  have h0 : (j 0).val < 8 := (j 0).isLt
  have h1 : (j 1).val < 2048 := (j 1).isLt
  omega⟩
/-- The cell of a number. -/
def cell (n : Fin 16384) : S8x2048.Idx := ix2 (⟨n.val / 2048, by have := n.isLt; omega⟩ : Fin 8) (⟨n.val % 2048, Nat.mod_lt _ (by decide)⟩ : Fin 2048)

theorem flat_cell (n : Fin 16384) : flat (cell n) = n := by
  apply Fin.ext
  show 2048 * (n.val / 2048) + n.val % 2048 = n.val
  omega
theorem cell_flat (j : S8x2048.Idx) : cell (flat j) = j := by
  have h0 : (j 0).val < 8 := (j 0).isLt
  have h1 : (j 1).val < 2048 := (j 1).isLt
  funext a
  match a with
  | ⟨0, _⟩ => exact Fin.ext (show (2048 * (j 0).val + (j 1).val) / 2048 = (j 0).val by omega)
  | ⟨1, _⟩ => exact Fin.ext (show (2048 * (j 0).val + (j 1).val) % 2048 = (j 1).val by omega)

/-- The cells and their numbers. -/
def cellEquiv : S8x2048.Idx ≃ Fin 16384 := ⟨flat, cell, cell_flat, flat_cell⟩

theorem sum_flat {A : Type} [AddCommMonoid A] (f : Fin 16384 → A) : ∑ a : Fin 8, ∑ b : Fin 2048, f (flat (ix2 a b)) = ∑ n, f n := by
  rw [← sum_idx2 (fun j => f (flat j))]
  exact Equiv.sum_comp cellEquiv f

/-- A real row as the kernel's cells. -/
def upc (w : Row) : Cells Ideal := fun j => ((w (flat j) : ℝ) : EReal)

theorem fill_up (x : ℝ) : fill (F := Ideal) (x : EReal) = upc fun _ => x := rfl
theorem mulf_up (v w : Row) : mulf (upc v) (upc w) = upc fun n => v n * w n := by
  funext j; exact (EReal.coe_mul _ _).symm
theorem addf_up (v w : Row) : addf (upc v) (upc w) = upc fun n => v n + w n := by
  funext j; exact (EReal.coe_add _ _).symm
theorem subf_up (v w : Row) : subf (upc v) (upc w) = upc fun n => v n - w n := by
  funext j; exact (EReal.coe_sub _ _).symm
theorem exp_up (v : Row) : Idealize.ShloMosaic.exp (upc v) = upc fun n => Real.exp (v n) := rfl

theorem cellSum_up (w : Row) : cellSum (upc w) = ((∑ n, w n : ℝ) : EReal) := by
  pointwise [cellSum]
  exact (sum_flat fun n => ((w n : ℝ) : EReal)).trans (coe_sum _ _)

theorem cellMin_up (w : Row) : cellMin (upc w) = ((w (least w) : ℝ) : EReal) := by
  pointwise [cellMin]
  rw [ofBits_top]
  apply le_antisymm
  · refine Finset.fold_min_le _ |>.2 (.inr ⟨(cell (least w) 0, cell (least w) 1), Finset.mem_univ _, ?_⟩)
    show ((w (flat (ix2 (cell (least w) 0) (cell (least w) 1))) : ℝ) : EReal) ≤ _
    rw [← eq_ix2, flat_cell]
  · exact Finset.le_fold_min _ |>.2 ⟨le_top, fun x _ => EReal.coe_le_coe_iff.2 ((least_spec w).1 _)⟩

theorem cellNo_apply (j : S8x2048.Idx) : cellNo j = BitVec.ofNat 32 (flat j).val := by
  pointwise [cellNo, k0_pay20]
  have h0 : (j 0).val < 8 := (j 0).isLt
  have h1 : (j 1).val < 2048 := (j 1).isLt
  apply BitVec.eq_of_toNat_eq
  show (BitVec.ofNat 32 (j 0).val * 2048#32 + BitVec.ofNat 32 (j 1).val).toNat = (BitVec.ofNat 32 (2048 * (j 0).val + (j 1).val)).toNat
  simp only [BitVec.toNat_add, BitVec.toNat_mul, BitVec.toNat_ofNat]
  omega

/-- The signed minimum over a set of words: one of them, and least. -/
theorem fold_minsi {ι : Type} (s : Finset ι) (f : ι → BitVec 32) (b : BitVec 32) :
    (s.fold IntOp.minsi b f = b ∨ ∃ x ∈ s, s.fold IntOp.minsi b f = f x)
      ∧ (s.fold IntOp.minsi b f).toInt ≤ b.toInt ∧ ∀ x ∈ s, (s.fold IntOp.minsi b f).toInt ≤ (f x).toInt := by
  classical
  induction s using Finset.induction_on with
  | empty => simp
  | insert a s ha ih =>
    rw [Finset.fold_insert ha]
    generalize s.fold IntOp.minsi b f = r at ih ⊢
    obtain ⟨hm, hb, hx⟩ := ih
    by_cases h : (f a).toInt < r.toInt
    · have e : IntOp.minsi (f a) r = f a := by simp [IntOp.minsi, BitVec.slt, h]
      rw [e]
      refine ⟨.inr ⟨a, by simp, rfl⟩, by omega, fun x hxs => ?_⟩
      rcases Finset.mem_insert.1 hxs with rfl | hxs
      · exact le_rfl
      · exact h.le.trans (hx x hxs)
    · have e : IntOp.minsi (f a) r = r := by simp [IntOp.minsi, BitVec.slt, h]
      rw [e]
      refine ⟨?_, hb, fun x hxs => ?_⟩
      · rcases hm with hm | ⟨x, hxs, hm⟩
        · exact .inl hm
        · exact .inr ⟨x, Finset.mem_insert_of_mem hxs, hm⟩
      · rcases Finset.mem_insert.1 hxs with rfl | hxs
        · exact not_lt.1 h
        · exact hx x hxs

theorem no_toInt (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- The least flat number at which the least value stands is the first least cell. -/
theorem firstMin_up (w : Row) : firstMin (upc w) = BitVec.ofNat 32 (least w).val := by
  pointwise [firstMin]
  rw [cellMin_up]
  have hf : ∀ x : Fin 8 × Fin 2048, (if upc w (ix2 x.1 x.2) = ((w (least w) : ℝ) : EReal) then cellNo (ix2 x.1 x.2) else 16384#32)
      = BitVec.ofNat 32 (if w (flat (ix2 x.1 x.2)) = w (least w) then (flat (ix2 x.1 x.2)).val else 16384) := by
    intro x
    rw [cellNo_apply]
    by_cases h : w (flat (ix2 x.1 x.2)) = w (least w)
    · rw [if_pos h, if_pos (by rw [upc, h])]
    · have h' : upc w (ix2 x.1 x.2) ≠ ((w (least w) : ℝ) : EReal) := fun q => h (EReal.coe_eq_coe_iff.1 q)
      rw [if_neg h, if_neg h']
  simp only [hf]
  obtain ⟨hm, -, hx⟩ := fold_minsi (Finset.univ : Finset (Fin 8 × Fin 2048))
    (fun x => BitVec.ofNat 32 (if w (flat (ix2 x.1 x.2)) = w (least w) then (flat (ix2 x.1 x.2)).val else 16384)) 2147483647#32
  generalize Finset.fold IntOp.minsi (2147483647#32) _ _ = r at hm hx ⊢
  have hlt : ∀ x : Fin 8 × Fin 2048, (if w (flat (ix2 x.1 x.2)) = w (least w) then (flat (ix2 x.1 x.2)).val else 16384) < 2 ^ 31 := by
    intro x
    have := (flat (ix2 x.1 x.2)).isLt
    split <;> omega
  have hle : ∀ x : Fin 8 × Fin 2048, (least w).val ≤ (if w (flat (ix2 x.1 x.2)) = w (least w) then (flat (ix2 x.1 x.2)).val else 16384) := by
    intro x
    split
    · next h => exact (least_spec w).2 _ h
    · exact (least w).isLt.le
  have hc := hx (cell (least w) 0, cell (least w) 1) (Finset.mem_univ _)
  have ec : (ix2 (cell (least w) 0) (cell (least w) 1) : S8x2048.Idx) = cell (least w) := (eq_ix2 _).symm
  have hl := (least w).isLt
  simp only [ec, flat_cell, if_true] at hc
  rw [no_toInt _ (by omega)] at hc
  apply BitVec.eq_of_toInt_eq
  rw [no_toInt _ (by omega)]
  refine le_antisymm hc ?_
  rcases hm with hm | ⟨x, -, hm⟩
  · rw [hm, show (2147483647#32 : BitVec 32).toInt = 2147483647 from rfl]; omega
  · rw [hm, no_toInt _ (hlt x)]; exact_mod_cast hle x

theorem leastHot_up (w : Row) : leastHot (upc w) = upc (hot w) := by
  funext j
  pointwise [leastHot]
  rw [cellNo_apply, firstMin_up]
  show (((BitVec.setWidth 32 (IntOp.cmpi CmpIPredicate.eq (BitVec.ofNat 32 (flat j).val) (BitVec.ofNat 32 (least w).val))).toInt : ℝ) : EReal)
    = ((hot w (flat j) : ℝ) : EReal)
  have hl := (least w).isLt
  have hj := (flat j).isLt
  by_cases h : flat j = least w
  · rw [h, hot, if_pos rfl]
    simp [IntOp.cmpi]
  · have : BitVec.ofNat 32 (flat j).val ≠ BitVec.ofNat 32 (least w).val := by
      intro q
      have := congrArg BitVec.toInt q
      rw [no_toInt _ (by omega), no_toInt _ (by omega)] at this
      exact h (Fin.ext (by exact_mod_cast this))
    rw [hot, if_neg h]
    rw [IntOp.cmpi, beq_eq_false_iff_ne.2 this]
    simp

theorem row_up (w : Row) : (shapeCast S1x16384 (upc w) shapeCasts_S8x2048_S1x16384 : FVec Ideal S1x16384 .f32) = fun j => ((w (j 1) : ℝ) : EReal) := by
  funext j
  obtain ⟨a, n, rfl⟩ : ∃ (a : Fin 1) (n : Fin 16384), j = ix2 a n := ⟨j 0, j 1, eq_ix2 j⟩
  pointwise
  show ((w (flat (cell n)) : ℝ) : EReal) = _
  rw [flat_cell]

end Cert.Memory
end
-- ==== Proof.StateReal.lean ====
module

public import proofs.«01_k».proof.Proof.CellReal

/-
  One time step of the kernel's state pass, over real numbers: if the state stands for the recurrence's state before the step, then
  the state after it stands for the recurrence's next state, and the step's weight row and correction row together give what the
  recurrence reads out.
-/

@[expose] public section

set_option maxRecDepth 16384

noncomputable section

namespace Cert.Memory

open scoped BigOperators
open Idealize.ShloMosaic Cert.KernelIdeal Cert.KernelIdeal.Gen Cert.KernelIdeal.Hand

/-- The keys as the kernel's array, and the table of their inner products. -/
def upK8 (K : Fin 8 → Key) : FVec Ideal S8x256 .f32 := fun j => ((K (j 0) (j 1) : ℝ) : EReal)
/-- The keys' inner products. -/
def upC (K : Fin 8 → Key) : FVec Ideal S8x8 .f32 := fun j => ((dot (K (j 0)) (K (j 1)) : ℝ) : EReal)
/-- A list of times and real rows as the kernel's. -/
def upW (ws : List (Fin 8 × Row)) : List (Fin 8 × Cells Ideal) := ws.map fun p => (p.1, upc p.2)

theorem gram_up (K : Fin 8 → Key) (t s : Fin 8) : gram (upC K) t s = ((dot (K t) (K s) : ℝ) : EReal) := by
  pointwise [gram, upC]

theorem stNum_up (K : Fin 8 → Key) (t : Fin 8) (g z : Row) (ws : List (Fin 8 × Row)) :
    stNum (upC K) t (upc g) (upc z) (upW ws) = upc fun n => ws.foldl (fun a p => a + dot (K t) (K p.1) * p.2 n) (z n * g n) := by
  have h : ∀ (ws : List (Fin 8 × Row)) (x : Row), (upW ws).foldl (fun a p => addf a (mulf (fill (gram (upC K) t p.1)) p.2)) (upc x)
      = upc fun n => ws.foldl (fun a p => a + dot (K t) (K p.1) * p.2 n) (x n) := by
    intro ws
    induction ws with
    | nil => intro x; rfl
    | cons p ws ih =>
      intro x
      show (upW ws).foldl _ (addf (upc x) (mulf (fill (gram (upC K) t p.1)) (upc p.2))) = _
      rw [gram_up, fill_up, mulf_up, addf_up, ih]
      rfl
  rw [stNum, mulf_up, h]

theorem stExp_up (K : Fin 8 → Key) (t : Fin 8) (v q : Row) (hq : ∀ n, floor ≤ q n) (hk : 0 < dot (K t) (K t)) :
    stExp (upC K) t (upc v) (upc q) = upc fun n => Real.exp (v n / (Real.sqrt (dot (K t) (K t)) * Real.sqrt (q n))) := by
  have e : rsqrt (maximumf (upc q) (fill (F := Ideal) (Scalar.ofBits .f32 0x0DA24260#32))) = upc fun n => (Real.sqrt (q n))⁻¹ := by
    funext j
    show Ideal.rsqrt (max ((q (flat j) : ℝ) : EReal) (Ideal.ofBits .f32 0x0DA24260#32)) = _
    rw [ofBits_floor, max_coe, max_eq_left (hq _), rsqrt_coe _ (floor_pos.trans_le (hq _))]
    rfl
  have e2 : (Scalar.rsqrt (gram (upC K) t t) : EReal) = (((Real.sqrt (dot (K t) (K t)))⁻¹ : ℝ) : EReal) := by
    rw [gram_up]
    exact rsqrt_coe _ hk
  rw [stExp, e, e2, fill_up, mulf_up, mulf_up, exp_up]
  refine congrArg upc (funext fun n => ?_)
  rw [div_eq_mul_inv, mul_inv, mul_comm (Real.sqrt (dot (K t) (K t)))⁻¹]

theorem readRow_up (s : Row) : readRow (upc fun n => Real.exp (s n)) = upc (soft s) := by
  have e : (Scalar.divf (Scalar.ofBits .f32 0x3F800000#32) (cellSum (upc fun n => Real.exp (s n))) : EReal)
      = ((1 / ∑ n, Real.exp (s n) : ℝ) : EReal) := by
    rw [cellSum_up]
    show Ideal.div (Ideal.ofBits .f32 0x3F800000#32) _ = _
    rw [ofBits_one, div_coe _ _ (sum_exp_pos s).ne']
  rw [readRow, e, fill_up, mulf_up]
  refine congrArg upc (funext fun n => ?_)
  rw [soft, mul_one_div]

theorem keep_up (w : Row) : subf (fill (Scalar.ofBits .f32 0x3F800000#32)) (leastHot (upc w)) = upc (keep w) := by
  have e : (Scalar.ofBits (F := Ideal) .f32 0x3F800000#32 : EReal) = ((1 : ℝ) : EReal) := ofBits_one
  rw [e, leastHot_up, fill_up, subf_up]
  rfl

theorem usage_up (wu wr ww : Row) : addf (addf (mulf (fill (Scalar.ofBits .f32 0x3F733333#32)) (upc wu)) (upc wr)) (upc ww) = upc (usage decay wu wr ww) := by
  have e : (Scalar.ofBits (F := Ideal) .f32 0x3F733333#32 : EReal) = ((decay : ℝ) : EReal) := ofBits_decay
  rw [e, fill_up, mulf_up, addf_up, addf_up]
  rfl

theorem write_up (b : ℝ) (wl : Row) :
    addf (fill (Scalar.divf (b : EReal) (Scalar.ofBits (F := Ideal) .f32 0x46800000#32)))
      (mulf (fill (Scalar.subf (Scalar.ofBits (F := Ideal) .f32 0x3F800000#32) (b : EReal))) (upc wl)) = upc (write b wl) := by
  have e1 : (Scalar.divf (F := Ideal) (φ := .f32) (b : EReal) (Scalar.ofBits (F := Ideal) .f32 0x46800000#32) : EReal) = ((b / 16384 : ℝ) : EReal) := by
    show Ideal.div (b : EReal) (Ideal.ofBits .f32 0x46800000#32) = _
    rw [ofBits_size, div_coe _ _ (by norm_num)]
  have e2 : (Scalar.subf (F := Ideal) (φ := .f32) (Scalar.ofBits (F := Ideal) .f32 0x3F800000#32) (b : EReal) : EReal) = ((1 - b : ℝ) : EReal) := by
    show Ideal.ofBits .f32 0x3F800000#32 - (b : EReal) = _
    rw [ofBits_one, ← EReal.coe_sub]
  rw [e1, e2, fill_up, fill_up, mulf_up, addf_up]
  rfl

theorem stNrm_up (K : Fin 8 → Key) (t : Fin 8) (k w v q : Row) :
    stNrm (upC K) t (upc k) (upc w) (upc v) (upc q) = upc fun n => k n * (q n + 2 * w n * v n) + w n * w n * dot (K t) (K t) := by
  have e : (Scalar.ofBits (F := Ideal) .f32 0x40000000#32 : EReal) = ((2 : ℝ) : EReal) := ofBits_two
  rw [stNrm, e, gram_up, fill_up, fill_up]
  simp only [mulf_up, addf_up]

/-- A key as the kernel's row. -/
def upA (x : Key) : FVec Ideal S1x256 .f32 := fun j => ((x (j 1) : ℝ) : EReal)

theorem stAcc_step (K : Fin 8 → Key) (s : Fin 8) (x : Key) (wr w : Row) :
    addf (upA x) (mulf (broadcast S1x256 (cellSum (mulf (upc wr) (upc w)))) (extractStridedSlice S1x256 ![s.val, 0] (upK8 K) (slices_K s)))
      = upA fun d => x d + (∑ n, wr n * w n) * K s d := by
  rw [mulf_up, cellSum_up]
  funext j
  obtain ⟨a, d, rfl⟩ : ∃ (a : Fin 1) (d : Fin 256), j = ix2 a d := ⟨j 0, j 1, eq_ix2 j⟩
  pointwise [upK8, upA]
  rw [EReal.coe_add, EReal.coe_mul]

theorem stAcc_up (K : Fin 8 → Key) (wr : Row) (ws : List (Fin 8 × Row)) :
    stAcc (upK8 K) (upc wr) (upW ws) = upA fun d => ws.foldl (fun a p => a + (∑ n, wr n * p.2 n) * K p.1 d) 0 := by
  have h : ∀ (ws : List (Fin 8 × Row)) (x : Key), (upW ws).foldl (fun a p => addf a (mulf (broadcast S1x256 (cellSum (mulf (upc wr) p.2)))
        (extractStridedSlice S1x256 ![p.1.val, 0] (upK8 K) (slices_K p.1)))) (upA x)
      = upA fun d => ws.foldl (fun a p => a + (∑ n, wr n * p.2 n) * K p.1 d) (x d) := by
    intro ws
    induction ws with
    | nil => intro x; rfl
    | cons p ws ih =>
      intro x
      rw [show upW (p :: ws) = (p.1, upc p.2) :: upW ws from rfl, List.foldl_cons]
      simp only [stAcc_step, List.foldl_cons]
      exact ih _
  have e0 : (broadcast S1x256 (Scalar.ofBits (F := Ideal) .f32 0x00000000#32) : FVec Ideal S1x256 .f32) = upA fun _ => 0 := by
    funext j
    exact Ideal.ofBits_zero_f32
  rw [stAcc, e0, h]

theorem stOut_up (t : Fin 8) (a : Key) (o : FVec Ideal S8x256 .f32) (r : Fin 8) (d : Fin 256) :
    stOut t (upA a) o (ix2 r d) = if r = t then ((a d : ℝ) : EReal) else o (ix2 r d) := by
  pointwise [stOut, rowNo, upA]
  by_cases h : r = t
  · rw [h, if_pos rfl]
    simp [IntOp.cmpi, Scalar.select]
  · have hr := r.isLt
    have ht := t.isLt
    have : BitVec.ofNat 32 r.val ≠ BitVec.ofNat 32 t.val := by
      intro q
      have := congrArg BitVec.toInt q
      rw [no_toInt _ (by omega), no_toInt _ (by omega)] at this
      exact h (Fin.ext (by exact_mod_cast this))
    rw [if_neg h, IntOp.cmpi, beq_eq_false_iff_ne.2 this]
    rfl

/-- The kernel's state stands for the recurrence's: the rows are the recurrence's rows, the kept write rows and the cells still
    holding their first contents give the memory, and the square norms are the memory's. -/
structure Stands (K : Fin 8 → Key) (M0 : Mem) (σ : St Ideal) (s : State) : Prop where
  memory : ∃ (z : Row) (ws : List (Fin 8 × Row)), σ.z = upc z ∧ σ.ws = upW ws ∧ s.M = fun d n => z n * M0 d n + added K ws d n
  wu : σ.wu = upc s.wu
  ww : σ.ww = upc s.ww
  wl : σ.wl = upc s.wl
  nrm : σ.nrm = upc (sq s.M)

theorem upW_keep (ws : List (Fin 8 × Row)) (k : Row) :
    (upW ws).map (fun p => (p.1, mulf p.2 (upc k))) = upW (ws.map fun p => (p.1, fun n => p.2 n * k n)) := by
  simp only [upW, List.map_map, Function.comp_def, mulf_up]

section
variable (K : Fin 8 → Key) (M0 : Mem) (b : ℝ) (t : Fin 8) (σ : St Ideal) (s : State)

/-- The products formed from the mask and the kept weights are those with the true memory. -/
theorem stNum_stands (z : Row) (ws : List (Fin 8 × Row)) (hz : σ.z = upc z) (hws : σ.ws = upW ws)
    (hM : s.M = fun d n => z n * M0 d n + added K ws d n) :
    stNum (upC K) t (upc (num (K t) M0)) σ.z σ.ws = upc (num (K t) s.M) := by
  rw [hz, hws, stNum_up, hM]
  exact congrArg upc (funext fun n => (num_added (K t) K z M0 ws n).symm)

/-- The read weights. -/
theorem stRead_stands (h : Stands K M0 σ s) (hq : ∀ n, floor ≤ sq s.M n) (hk : 0 < dot (K t) (K t)) :
    stRead (upC K) t (upc (num (K t) M0)) σ = upc (read (K t) s.M) := by
  obtain ⟨z, ws, hz, hws, hM⟩ := h.memory
  rw [stRead, stNum_stands K M0 t σ s z ws hz hws hM, h.nrm, stExp_up K t _ _ hq hk]
  exact readRow_up (sim (K t) s.M)

/-- The mask of the cell to be cleared. -/
theorem stKeep_stands (h : Stands K M0 σ s) : stKeep σ = upc (keep s.wu) := by
  rw [stKeep, h.wu, keep_up]

/-- The usage. -/
theorem stWu_stands (h : Stands K M0 σ s) (wr : Row) : stWu σ (upc wr) = upc (usage decay s.wu wr s.ww) := by
  rw [stWu, h.wu, h.ww, usage_up]

/-- The write weights. -/
theorem stWw_stands (h : Stands K M0 σ s) : stWw (F := Ideal) (b : EReal) σ = upc (write b s.wl) := by
  rw [stWw, h.wl]
  exact write_up b s.wl

/-- The step keeps it so. -/
theorem step_stands (h : Stands K M0 σ s) (hq : ∀ n, floor ≤ sq s.M n) (hk : 0 < dot (K t) (K t)) :
    Stands K M0 (step (upK8 K) (b : EReal) (upC K) t (upc (num (K t) M0)) σ) (next decay b (K t) s) := by
  obtain ⟨z, ws, hz, hws, hM⟩ := h.memory
  have hr := stRead_stands K M0 t σ s h hq hk
  have hkeep := stKeep_stands K M0 σ s h
  have hww := stWw_stands K M0 b σ s h
  constructor
  · refine ⟨fun n => z n * keep s.wu n, (ws.map fun p => (p.1, fun n => p.2 n * keep s.wu n)) ++ [(t, write b s.wl)], ?_, ?_, ?_⟩
    · show stZ σ = _
      rw [stZ, hkeep, hz, mulf_up]
    · show stWs σ ++ [(t, stWw _ σ)] = _
      rw [stWs, hkeep, hws, upW_keep, hww]
      simp only [upW, List.map_append, List.map_cons, List.map_nil]
    · show put (K t) (write b s.wl) (clear s.wu s.M) = _
      rw [hM, clear_added, put_added]
  · show stWu σ (stRead (upC K) t (upc (num (K t) M0)) σ) = _
    rw [hr, stWu_stands K M0 σ s h]
    rfl
  · exact hww
  · show leastHot (stWu σ (stRead (upC K) t (upc (num (K t) M0)) σ)) = _
    rw [hr, stWu_stands K M0 σ s h, leastHot_up]
    rfl
  · show stNrm (upC K) t (stKeep σ) (stWw (b : EReal) σ) (stNum (upC K) t (upc (num (K t) M0)) σ.z σ.ws) σ.nrm = _
    rw [hkeep, hww, stNum_stands K M0 t σ s z ws hz hws hM, h.nrm, stNrm_up]
    exact congrArg upc (funext fun n => (sq_next (K t) s.wu (write b s.wl) s.M n).symm)

/-- The step's weight row on the first memory and its correction row give what the recurrence reads out. -/
theorem step_result (h : Stands K M0 σ s) (hq : ∀ n, floor ≤ sq s.M n) (hk : 0 < dot (K t) (K t)) :
    ∃ (R : Row) (a : Key), (stRow (upC K) t (upc (num (K t) M0)) σ = fun j => ((R (j 1) : ℝ) : EReal))
      ∧ (∀ r d, (step (upK8 K) (b : EReal) (upC K) t (upc (num (K t) M0)) σ).out (ix2 r d)
          = if r = t then ((a d : ℝ) : EReal) else σ.out (ix2 r d))
      ∧ ∀ d, (∑ n, R n * M0 d n) + a d = result (K t) s d := by
  obtain ⟨z, ws, hz, hws, hM⟩ := h.memory
  have hr := stRead_stands K M0 t σ s h hq hk
  have hkeep := stKeep_stands K M0 σ s h
  refine ⟨fun n => read (K t) s.M n * (z n * keep s.wu n), fun d => (ws.map fun p => (p.1, fun n => p.2 n * keep s.wu n)).foldl
    (fun a p => a + (∑ n, read (K t) s.M n * p.2 n) * K p.1 d) 0, ?_, fun r d => ?_, fun d => ?_⟩
  · rw [stRow, hr, stZ, hkeep, hz, mulf_up, mulf_up, row_up]
  · show stOut t (stAcc (upK8 K) (stRead (upC K) t (upc (num (K t) M0)) σ) (stWs σ)) σ.out (ix2 r d) = _
    rw [hr, stWs, hkeep, hws, upW_keep, stAcc_up, stOut_up]
  · rw [result]
    have e : clear s.wu s.M = fun d n => (z n * keep s.wu n) * M0 d n + added K (ws.map fun p => (p.1, fun n => p.2 n * keep s.wu n)) d n := by
      rw [hM, clear_added]
    rw [e, look_added]
end

end Cert.Memory
end
-- ==== Proof.Guarded.lean ====
module

public import proofs.«01_k».proof.Proof.RealMath
public import proofs.«01_k».proof.Proof.RealOps

/-
  Inputs on which the kernel's guards do nothing.
-/

@[expose] public section

noncomputable section

namespace Cert.Memory

/-- No guard of the kernel acts: every key is nonzero, and at every step every column's square norm is at least the floor. -/
structure Guarded (K : Fin 8 → Key) (M : Mem) (b : ℝ) : Prop where
  key : ∀ t, 0 < dot (K t) (K t)
  col : ∀ n, n < 8 → ∀ c, floor ≤ sq (stateAt decay b K M n).M c

end Cert.Memory
end
-- ==== Proof.PassReal.lean ====
module

public import proofs.«01_k».proof.Proof.StatePassEq
public import proofs.«01_k».proof.Proof.StateReal
public import proofs.«01_k».proof.Proof.Guarded

/-
  The kernel's whole state pass over real numbers: its eight steps follow the recurrence, and row `t` of what it stores is what the
  recurrence reads out at step `t`.
-/

@[expose] public section

set_option maxRecDepth 16384

noncomputable section

namespace Cert.Memory

open scoped BigOperators
open Idealize.ShloMosaic Cert.KernelIdeal Cert.KernelIdeal.Gen Cert.KernelIdeal.Hand

section
variable (K : Fin 8 → Key) (M : Mem) (b : ℝ)

/-- The kernel's state after `n` steps. -/
def sAt (n : ℕ) : St Ideal := stAt (upK8 K) (b : EReal) (upC K) (fun t => upc (num (K t) M)) (upc (sq M)) n

theorem sAt_zero : Stands K M (sAt K M b 0) (stateAt decay b K M 0) where
  memory := ⟨fun _ => 1, [], by
    show fill (Scalar.ofBits .f32 0x3F800000#32) = _
    rw [show (Scalar.ofBits (F := Ideal) .f32 0x3F800000#32 : EReal) = ((1 : ℝ) : EReal) from ofBits_one, fill_up], rfl, by
    funext d n
    show M d n = _
    simp [added]⟩
  wu := by funext j; exact Ideal.ofBits_zero_f32
  ww := by funext j; exact Ideal.ofBits_zero_f32
  wl := by funext j; exact Ideal.ofBits_zero_f32
  nrm := rfl

variable {K M b}

/-- At every step the kernel's state stands for the recurrence's. -/
theorem sAt_stands (hg : Guarded K M b) (n : ℕ) (hn : n ≤ 8) : Stands K M (sAt K M b n) (stateAt decay b K M n) := by
  induction n with
  | zero => exact sAt_zero K M b
  | succ n ih =>
    have h : n < 8 := hn
    rw [sAt, stAt_succ _ _ _ _ _ _ h, stateAt_succ _ _ _ _ _ h]
    exact step_stands K M b ⟨n, h⟩ _ _ (ih h.le) (hg.col n h) (hg.key _)

/-- Row `t` of the correction rows, once step `t` is past, is the step's own. -/
theorem out_after (hg : Guarded K M b) (t : Fin 8) (a : Key)
    (ha : ∀ r d, (sAt K M b (t.val + 1)).out (ix2 r d) = if r = t then ((a d : ℝ) : EReal) else (sAt K M b t.val).out (ix2 r d))
    (d : Fin 256) (n : ℕ) (hn : t.val < n) (h8 : n ≤ 8) : (sAt K M b n).out (ix2 t d) = ((a d : ℝ) : EReal) := by
  induction n with
  | zero => omega
  | succ n ih =>
    by_cases he : n = t.val
    · subst he
      rw [ha, if_pos rfl]
    · have h : n < 8 := h8
      obtain ⟨R, a', -, hout, -⟩ := step_result K M b ⟨n, h⟩ _ _ (sAt_stands hg n h.le) (hg.col n h) (hg.key _)
      rw [sAt, stAt_succ _ _ _ _ _ _ h]
      refine (hout t d).trans ?_
      rw [if_neg (fun q => he (congrArg Fin.val q).symm), ih (by omega) (by omega)]

/-- The weight row of step `t`. -/
theorem row_after (hg : Guarded K M b) (t : Fin 8) : ∃ (R : Row) (a : Key),
    (stRow (upC K) t (upc (num (K t) M)) (sAt K M b t.val) = fun j => ((R (j 1) : ℝ) : EReal))
      ∧ (∀ d, (sAt K M b 8).out (ix2 t d) = ((a d : ℝ) : EReal))
      ∧ ∀ d, (∑ n, R n * M d n) + a d = result (K t) (stateAt decay b K M t.val) d := by
  obtain ⟨R, a, hR, hout, hs⟩ := step_result K M b t _ _ (sAt_stands hg t.val t.isLt.le) (hg.col t.val t.isLt) (hg.key t)
  refine ⟨R, a, hR, fun d => out_after hg t a (fun r d => ?_) d 8 t.isLt le_rfl, hs⟩
  rw [sAt, stAt_succ _ _ _ _ _ _ t.isLt]
  exact hout r d

/-- The first memory as the kernel's array. -/
def upM (M : Mem) : Vec Ideal S256x16384 .f32 := fun j => ((M (j 0) (j 1) : ℝ) : EReal)

/-- The last point's result. -/
theorem passOut_up (hg : Guarded K M b) (t : Fin 8) (d : Fin 256) :
    passOut (upK8 K) (b : EReal) (upC K) (fun t => upc (num (K t) M)) (upc (sq M)) (upM M) (ix2 t d)
      = ((result (K t) (stateAt decay b K M t.val) d : ℝ) : EReal) := by
  obtain ⟨R, a, hR, ha, hs⟩ := row_after hg t
  pointwise [passOut]
  have hx : ∀ (x : Fin 16384), _ = ((R x : ℝ) : EReal) := fun x => congrFun hR (ix2 0 x)
  rw [show (stAt (upK8 K) (b : EReal) (upC K) (fun t => upc (num (K t) M)) (upc (sq M)) 8).out (ix2 t d) = _ from ha d, ← hs d,
    EReal.coe_add, ← coe_sum]
  refine congrArg (· + ((a d : ℝ) : EReal)) (Finset.sum_congr rfl fun x _ => ?_)
  rw [EReal.coe_mul, ← hx x]
  refine congrArg (· * ((M d x : ℝ) : EReal)) ?_
  clear hx hR ha hs
  fin_cases t <;> rfl
end

end Cert.Memory
end
-- ==== Proof.TileReal.lean ====
module

public import proofs.«01_k».proof.Proof.TileAcc
public import proofs.«01_k».proof.Proof.KernelRun
public import proofs.«01_k».proof.Proof.PassReal

/-
  What the accumulating grid points leave over real numbers — each key's products with the first memory and the memory's square
  norms — and with it the kernel's whole result.
-/

@[expose] public section

set_option maxRecDepth 16384

noncomputable section

namespace Cert.Memory

open scoped BigOperators
open Idealize.ShloMosaic Cert.KernelIdeal Cert.KernelIdeal.Gen Cert.KernelIdeal.Hand

section
variable (K : Fin 8 → Key) (M : Mem)

theorem keys_up : k0_pay9 (upK8 K) = upK8 K := by
  obtain h : ∀ j, k0_pay9 (upK8 K) j = upK8 K j := fun j => by
    obtain ⟨r, d, rfl⟩ : ∃ r d, j = ix2 r d := ⟨j 0, j 1, eq_ix2 j⟩
    pointwise [k0_pay9]
  exact funext h

/-- The keys' inner products. -/
theorem gram_keys : k0_pay11 (upK8 K) = upC K := by
  rw [k0_pay11, keys_up]
  funext j
  obtain ⟨r, s, rfl⟩ : ∃ r s, j = ix2 r s := ⟨j 0, j 1, eq_ix2 j⟩
  pointwise
  show ∑ x, ((K r x : ℝ) : EReal) * ((K s x : ℝ) : EReal) = ((dot (K r) (K s) : ℝ) : EReal)
  simp only [← EReal.coe_mul, coe_sum]
  rfl

theorem gate_up' (b : EReal) : k0_pay10 (F := Ideal) b = ((gate b : ℝ) : EReal) := gate_coe b

theorem tile_up (n : ℕ) (d : Fin 256) (l : Fin 4096) :
    tile (upM M) n (ix2 d l) = ((M d ⟨(4096 * n + l.val) % 16384, Nat.mod_lt _ (by decide)⟩ : ℝ) : EReal) := rfl

/-- The square norm of the column a half tile's lane stands for. -/
theorem sq_half (r : Fin 8) (l : Fin 2048) (q : Fin 4096) (hq : (4096 * (r.val / 2) + q.val) % 16384 = (flat (ix2 r l)).val) :
    ∑ x, tile (upM M) (r.val / 2) (ix2 x q) * tile (upM M) (r.val / 2) (ix2 x q) = upc (sq M) (ix2 r l) := by
  have e : (⟨(4096 * (r.val / 2) + q.val) % 16384, Nat.mod_lt _ (by decide)⟩ : Fin 16384) = flat (ix2 r l) := Fin.ext hq
  simp only [tile_up, ← EReal.coe_mul, coe_sum]
  rw [e]
  rfl

/-- The product with a key of the column a half tile's lane stands for. -/
theorem num_half (t : Fin 8) (r : Fin 8) (l : Fin 2048) (q : Fin 4096) (hq : (4096 * (r.val / 2) + q.val) % 16384 = (flat (ix2 r l)).val) :
    ∑ x, upK8 K (ix2 t x) * tile (upM M) (r.val / 2) (ix2 x q) = upc (num (K t) M) (ix2 r l) := by
  have e : (⟨(4096 * (r.val / 2) + q.val) % 16384, Nat.mod_lt _ (by decide)⟩ : Fin 16384) = flat (ix2 r l) := Fin.ext hq
  simp only [tile_up]
  rw [e]
  show ∑ x, ((K t x : ℝ) : EReal) * ((M x (flat (ix2 r l)) : ℝ) : EReal) = _
  simp only [← EReal.coe_mul, coe_sum]
  rfl

/-- The gathered square norms. -/
theorem tot2_up : tot2 (upM M) = upc (sq M) := by
  funext j
  obtain ⟨r, l, rfl⟩ : ∃ r l, j = ix2 r l := ⟨j 0, j 1, eq_ix2 j⟩
  rw [tot2]
  dsimp only
  split_ifs with h
  · pointwise [k0_pay7, k0_pay6]
    exact sq_half M r l _ (by have := r.isLt; have := l.isLt; have h' : r.val % 2 = 0 := h; show (4096 * (r.val / 2) + l.val) % 16384 = 2048 * r.val + l.val; clear h; omega)
  · pointwise [k0_pay1, k0_pay8, k0_pay6]
    exact sq_half M r l _ (by have := r.isLt; have := l.isLt; have h' : ¬ r.val % 2 = 0 := h; show (4096 * (r.val / 2) + (2048 + l.val)) % 16384 = 2048 * r.val + l.val; clear h; omega)

/-- The gathered products, key by key. -/
theorem slab_up (t : Fin 8) (r : Fin 8) (l : Fin 2048) :
    slab (tot1 (upM M) (upK8 K)) t (ix3 0 r l) = upc (num (K t) M) (ix2 r l) := by
  have e : slab (tot1 (upM M) (upK8 K)) t (ix3 0 r l) = tot1 (upM M) (upK8 K) (ix3 t r l) :=
    congrArg (tot1 (upM M) (upK8 K)) (by
      funext a
      refine Fin.ext ?_
      match a with
      | ⟨0, _⟩ => exact Nat.add_zero _
      | ⟨1, _⟩ => exact (Nat.zero_add _).trans (Nat.one_mul _)
      | ⟨2, _⟩ => exact (Nat.zero_add _).trans (Nat.one_mul _))
  rw [e, tot1]
  dsimp only
  split_ifs with h
  · refine Eq.trans (b := k0_pay4 (tile (upM M) (r.val / 2)) (upK8 K) (ix3 t 0 l)) rfl ?_
    pointwise [k0_pay4, k0_pay3]
    exact num_half K M t r l _ (by have := r.isLt; have := l.isLt; have h' : r.val % 2 = 0 := h; show (4096 * (r.val / 2) + l.val) % 16384 = 2048 * r.val + l.val; clear h; omega)
  · refine Eq.trans (b := k0_pay5 (tile (upM M) (r.val / 2)) (upK8 K) (ix3 t 0 l)) rfl ?_
    pointwise [k0_pay5, k0_pay3]
    exact num_half K M t r l _ (by have := r.isLt; have := l.isLt; have h' : ¬ r.val % 2 = 0 := h; show (4096 * (r.val / 2) + (2048 + l.val)) % 16384 = 2048 * r.val + l.val; clear h; omega)

/-- The products as the last point reads them. -/
theorem products_up :
    gOf (slab (tot1 (upM M) (upK8 K)) 0) (slab (tot1 (upM M) (upK8 K)) 1) (slab (tot1 (upM M) (upK8 K)) 2) (slab (tot1 (upM M) (upK8 K)) 3)
      (slab (tot1 (upM M) (upK8 K)) 4) (slab (tot1 (upM M) (upK8 K)) 5) (slab (tot1 (upM M) (upK8 K)) 6) (slab (tot1 (upM M) (upK8 K)) 7)
      = fun t => upc (num (K t) M) := by
  have h : ∀ t, shapeCast S8x2048 (slab (tot1 (upM M) (upK8 K)) t) shapeCasts_S1x8x2048_S8x2048 = upc (num (K t) M) := fun t => by
    funext j
    obtain ⟨r, l, rfl⟩ : ∃ r l, j = ix2 r l := ⟨j 0, j 1, eq_ix2 j⟩
    pointwise
    exact slab_up K M t r l
  funext t
  rw [← h t]
  fin_cases t <;> rfl

variable {K M}

/-- The kernel's result over real numbers: row `t` is what the recurrence reads out at step `t`. -/
theorem kernelOut_up (b : EReal) (hg : Guarded K M (gate b)) (x1 : Vec Ideal S1x1 .f32) (hx : x1 = fun _ => b)
    (t : Fin 8) (d : Fin 256) :
    kernelOut x1 (upK8 K) (upM M) (ix2 t d) = ((result (K t) (stateAt decay (gate b) K M t.val) d : ℝ) : EReal) := by
  rw [kernelOut, stateOut, keys_up, gram_keys, products_up, tot2_up, hx, gate_up']
  exact passOut_up hg t d
end

end Cert.Memory
end
-- ==== Proof.StepTerm.lean ====
module

public import proofs.«01_k».proof.Pre_guards_idle
public import Idealize.ShloMosaic.Lib.Tactic

/-
  One step of the reference, written in stages: the similarities, the weights, the least cell, the cleared memory, the rows and
  the next memory, each in the reference's own operations. The printed step is the stages put together.
-/

@[expose] public section

noncomputable section

namespace Cert.Memory

open Idealize.ShloMosaic Idealize.ShloMosaic.Tactic Cert.Pre_guards_idle Cert.Pre_guards_idle.Facts

variable [Cert.Pre_guards_idle.Facts] {F : FTy → Type} [FloatOps F]

/-- The similarities of the key and the columns. -/
def simT (M : FVec F S256x16384 .f32) (k : FVec F S1x256 .f32) : FVec F S1x16384 .f32 :=
  Host.divf (Host.dotGeneral dot_S1x256_S256x16384_S1x16384_1_0_0_1_n_n none k M)
    (mulf (broadcastInDim S1x16384 ![0, 1] bcast_S1x1_S1x16384_0_1 (fn_norm (F := F) k)) (fn_norm_0 (F := F) M))

/-- The greatest similarity, for each cell. -/
def topT (s : FVec F S1x16384 .f32) : FVec F S1x16384 .f32 :=
  broadcastInDim S1x16384 ![0, 1] bcast_S1x1_S1x16384_0_1 (broadcastInDim S1x1 ![0] bcast_S1_S1x1_0
    (maximumf (broadcastInDim S1 ![] bcast_S_S1 (constant S_ .f32 0xFF800000#32))
      (Host.reduce FloatOps.maximumf s (constant S_ .f32 0xFF800000#32) reducesTo_S1x16384_S1_d1 h_S_)))

/-- The exponentials over their sum. -/
def overSumT (e : FVec F S1x16384 .f32) : FVec F S16384 .f32 :=
  shapeCast S16384 (Host.divf e (broadcastInDim S1x16384 ![0, 1] bcast_S1x1_S1x16384_0_1 (broadcastInDim S1x1 ![0] bcast_S1_S1x1_0
    (Host.reduceAdd e (constant S_ .f32 0x00000000#32) reducesTo_S1x16384_S1_d1 h_S_)))) shapeCasts_S1x16384_S16384

/-- The read weights from the similarities. -/
def softT (s : FVec F S1x16384 .f32) : FVec F S16384 .f32 := overSumT (Host.exp (subf s (topT s)))

/-- The number of the cell at which a row is least. -/
def leastT (w : FVec F S16384 .f32) : IVec S1 32 :=
  broadcastInDim S1 ![] bcast_S_S1 (select (cmpi .slt (fn_argmin (F := F) w) (constantI S_ 32 0#32))
    (addi (fn_argmin (F := F) w) (constantI S_ 32 16384#32)) (fn_argmin (F := F) w))

/-- The memory with that cell cleared. -/
def clearT (M : FVec F S256x16384 .f32) (i : IVec S1 32) : FVec F S256x16384 .f32 :=
  Host.scatter scatter_S256x16384_S1_S256_0_1_1_0 (fun _ b => b) M i (broadcastInDim S256 ![] bcast_S_S256 (constant S_ .f32 0x00000000#32))

/-- The next usage row. -/
def usageT (wu wr ww : FVec F S16384 .f32) : FVec F S16384 .f32 :=
  addf (addf (mulf (broadcastInDim S16384 ![] bcast_S_S16384 (constant S_ .f32 0x3F733333#32)) wu) wr) ww

/-- The gate. -/
def gateT (b : FVec F S_ .f32) : FVec F S_ .f32 :=
  Host.divf (constant S_ .f32 0x3F800000#32) (addf (constant S_ .f32 0x3F800000#32) (Host.exp (Host.negf b)))

/-- The write weights. -/
def writeT (g : FVec F S_ .f32) (wr wl : FVec F S16384 .f32) : FVec F S16384 .f32 :=
  addf (broadcastInDim S16384 ![] bcast_S_S16384 (mulf g (Host.divf
      (Host.reduceAdd wr (constant S_ .f32 0x00000000#32) reducesTo_S16384_S_d0 h_S_) (constant S_ .f32 0x46800000#32))))
    (mulf (broadcastInDim S16384 ![] bcast_S_S16384 (subf (constant S_ .f32 0x3F800000#32) g)) wl)

/-- One at that cell, zero elsewhere. -/
def hotT (i : IVec S1 32) : FVec F S16384 .f32 :=
  Host.scatter scatter_S16384_S1_S__n_0_0_0 (fun _ b => b) (broadcastInDim S16384 ![] bcast_S_S16384 (constant S_ .f32 0x00000000#32)) i
    (constant S_ .f32 0x3F800000#32)

/-- What the weights read out of the memory. -/
def lookT (wr : FVec F S16384 .f32) (M : FVec F S256x16384 .f32) : FVec F S1x256 .f32 :=
  broadcastInDim S1x256 ![1] bcast_S256_S1x256_1 (Host.dotGeneral dot_S16384_S16384x256_S256_0_0_n_1_n_n none wr
    (transpose S16384x256 [1, 0] M transposes_S256x16384_S16384x256_1_0))

/-- The memory with the key written into it. -/
def putT (M : FVec F S256x16384 .f32) (k : FVec F S1x256 .f32) (ww : FVec F S16384 .f32) : FVec F S256x16384 .f32 :=
  addf M (Host.dotGeneral dot_S256x1_S1x16384_S256x16384_1_0_0_1_n_n none (transpose S256x1 [1, 0] k transposes_S1x256_S256x1_1_0)
    (broadcastInDim S1x16384 ![1] bcast_S16384_S1x16384_1 ww))

/-- One step of the reference, its stages put together: the next memory, the usage, write and least-used rows, and the row read out. -/
def stepT (M : FVec F S256x16384 .f32) (wu ww wl : FVec F S16384 .f32) (k : FVec F S1x256 .f32) (b : FVec F S_ .f32) :
    FVec F S256x16384 .f32 × FVec F S16384 .f32 × FVec F S16384 .f32 × FVec F S16384 .f32 × FVec F S1x256 .f32 :=
  (putT (clearT M (leastT wu)) k (writeT (gateT b) (softT (simT M k)) wl),
    usageT wu (softT (simT M k)) ww,
    writeT (gateT b) (softT (simT M k)) wl,
    hotT (leastT (usageT wu (softT (simT M k)) ww)),
    lookT (softT (simT M k)) (clearT M (leastT wu)))

theorem fn_step_eq (M : FVec F S256x16384 .f32) (wu ww wl : FVec F S16384 .f32) (k : FVec F S1x256 .f32) (b : FVec F S_ .f32) :
    fn_step M wu ww wl k b = stepT M wu ww wl k b := by
  sl_kernel_rfl

theorem fn_step_1_eq (M : FVec F S256x16384 .f32) (wu ww wl : FVec F S16384 .f32) (k : FVec F S1x256 .f32) (b : FVec F S_ .f32) :
    fn_step_1 M wu ww wl k b = stepT M wu ww wl k b := by
  sl_kernel_rfl

end Cert.Memory
end
-- ==== Proof.WalkTerm.lean ====
module

public import proofs.«01_k».proof.Proof.StepTerm
public import Mathlib.Tactic.IntervalCases

/-
  The reference's eight steps one after another, and the precondition written with them: the keys, the memory and the gate's
  argument are finite, the keys are nonzero, and before each step no column's square norm is below the floor.
-/

@[expose] public section

noncomputable section

namespace Cert.Memory

open Idealize.ShloMosaic Idealize.ShloMosaic.Tactic Cert.Pre_guards_idle Cert.Pre_guards_idle.Facts

variable [Cert.Pre_guards_idle.Facts] {F : FTy → Type} [FloatOps F]

theorem slices_key (n : ℕ) (hn : n < 8) : S8x1x256.Slices ![n, 0, 0] S1x1x256 := by
  interval_cases n <;> decide

/-- The row of the key numbered `n`. -/
def keyT (K : FVec F S8x1x256 .f32) (n : ℕ) (hn : n < 8) : FVec F S1x256 .f32 :=
  shapeCast S1x256 (extractStridedSlice S1x1x256 ![n, 0, 0] K (slices_key n hn)) shapeCasts_S1x1x256_S1x256

/-- The carried values: the memory and the usage, write and least-used rows. -/
abbrev Carried (F : FTy → Type) : Type := FVec F S256x16384 .f32 × FVec F S16384 .f32 × FVec F S16384 .f32 × FVec F S16384 .f32

/-- The carried values after `n` steps. -/
def walkT (K : FVec F S8x1x256 .f32) (M : FVec F S256x16384 .f32) (b : FVec F S_ .f32) : ℕ → Carried F
  | 0 => (M, broadcastInDim S16384 ![] bcast_S_S16384 (constant S_ .f32 0x00000000#32),
      broadcastInDim S16384 ![] bcast_S_S16384 (constant S_ .f32 0x00000000#32),
      broadcastInDim S16384 ![] bcast_S_S16384 (constant S_ .f32 0x00000000#32))
  | n + 1 =>
    if h : n < 8 then
      ((stepT (walkT K M b n).1 (walkT K M b n).2.1 (walkT K M b n).2.2.1 (walkT K M b n).2.2.2 (keyT K n h) b).1,
        (stepT (walkT K M b n).1 (walkT K M b n).2.1 (walkT K M b n).2.2.1 (walkT K M b n).2.2.2 (keyT K n h) b).2.1,
        (stepT (walkT K M b n).1 (walkT K M b n).2.1 (walkT K M b n).2.2.1 (walkT K M b n).2.2.2 (keyT K n h) b).2.2.1,
        (stepT (walkT K M b n).1 (walkT K M b n).2.1 (walkT K M b n).2.2.1 (walkT K M b n).2.2.2 (keyT K n h) b).2.2.2.1)
    else walkT K M b n

/-- Every column's square norm is at least the floor. -/
def colsT (M : FVec F S256x16384 .f32) : IVec S_ 1 :=
  Host.reduce IntOp.andi (cmpf .oge (Host.reduceAdd (mulf M M) (constant S_ .f32 0x00000000#32) reducesTo_S256x16384_S16384_d0 h_S_)
    (broadcastInDim S16384 ![] bcast_S_S16384 (constant S_ .f32 0x0DA24260#32))) (constantI S_ 1 1#1) reducesTo_S16384_S_d0 h_S_

/-- The keys are finite. -/
def finKeys (K : FVec F S8x1x256 .f32) : IVec S_ 1 :=
  Host.reduce IntOp.andi (cmpf .olt (Host.absf K) (broadcastInDim S8x1x256 ![] bcast_S_S8x1x256 (constant S_ .f32 0x7F800000#32)))
    (constantI S_ 1 1#1) reducesTo_S8x1x256_S_d0_1_2 h_S_

/-- The memory is finite. -/
def finMem (M : FVec F S256x16384 .f32) : IVec S_ 1 :=
  Host.reduce IntOp.andi (cmpf .olt (Host.absf M) (broadcastInDim S256x16384 ![] bcast_S_S256x16384 (constant S_ .f32 0x7F800000#32)))
    (constantI S_ 1 1#1) reducesTo_S256x16384_S_d0_1 h_S_

/-- The keys are nonzero. -/
def keysT (K : FVec F S8x1x256 .f32) : IVec S_ 1 :=
  Host.reduce IntOp.andi (cmpf .ogt (Host.reduceAdd (mulf K K) (constant S_ .f32 0x00000000#32) reducesTo_S8x1x256_S8x1_d2 h_S_)
    (broadcastInDim S8x1 ![] bcast_S_S8x1 (constant S_ .f32 0x00000000#32))) (constantI S_ 1 1#1) reducesTo_S8x1_S_d0_1 h_S_

/-- The columns before the first `n` steps, after `p`. -/
def colsUpTo (p : IVec S_ 1) (K : FVec F S8x1x256 .f32) (M : FVec F S256x16384 .f32) (b : FVec F S_ .f32) : ℕ → IVec S_ 1
  | 0 => p
  | n + 1 => andi (colsUpTo p K M b n) (colsT (walkT K M b n).1)

/-- The precondition in these words. -/
theorem fn_eq (K V : FVec F S8x1x256 .f32) (M N : FVec F S256x16384 .f32) (b : FVec F S_ .f32) :
    fn K V M N b = colsUpTo (andi (andi (finKeys K) (finMem M)) (keysT K)) K M b 8 := by
  sl_kernel_rfl

end Cert.Memory
end
-- ==== Proof.StepReal.lean ====
module

public import proofs.«01_k».proof.Proof.StepTerm
public import proofs.«01_k».proof.Proof.RealMath
public import proofs.«01_k».proof.Proof.RealOps
public import Idealize.ShloMosaic.Lib.Pointwise

/-
  The stages of the reference's step on arrays of real numbers: each gives the array of the real row it is named after.
-/

@[expose] public section

set_option maxRecDepth 16384

noncomputable section

namespace Cert.Memory

open scoped BigOperators
open Idealize.ShloMosaic Cert.Pre_guards_idle Cert.Pre_guards_idle.Facts

/-- Real rows, memories and keys as the reference's arrays. -/
def up1 (w : Row) : FVec Ideal S16384 .f32 := fun j => ((w (j 0) : ℝ) : EReal)
/-- A row, as a matrix of one row. -/
def upR (w : Row) : FVec Ideal S1x16384 .f32 := fun j => ((w (j 1) : ℝ) : EReal)
/-- A memory. -/
def up2 (M : Mem) : FVec Ideal S256x16384 .f32 := fun j => ((M (j 0) (j 1) : ℝ) : EReal)
/-- A key. -/
def upK (k : Key) : FVec Ideal S1x256 .f32 := fun j => ((k (j 1) : ℝ) : EReal)
/-- The gate's argument. -/
def up0 (b : EReal) : FVec Ideal S_ .f32 := fun _ => b

variable [Cert.Pre_guards_idle.Facts]

/-- The similarities. -/
theorem simT_up (M : Mem) (k : Key) (hM : ∀ n, 0 < sq M n) (hk : 0 < dot k k) : simT (up2 M) (upK k) = upR (sim k M) := by
  funext j
  idx_vars j
  pointwise [simT, fn_norm, fn_norm_0, up2, upK, upR]
  simp only [← EReal.coe_mul, coe_sum]
  show Ideal.div ((num k M j1 : ℝ) : EReal) (Ideal.sqrt ((dot k k : ℝ) : EReal) * Ideal.sqrt ((sq M j1 : ℝ) : EReal)) = _
  rw [sqrt_coe _ hk.le, sqrt_coe _ (hM j1).le, ← EReal.coe_mul, div_coe _ _ (mul_ne_zero (Real.sqrt_ne_zero'.2 hk) (Real.sqrt_ne_zero'.2 (hM j1)))]
  rfl

/-- The greatest similarity is a real number. -/
theorem topT_up (s : Row) : ∃ c : ℝ, topT (upR s) = upR (fun _ => c) := by
  obtain ⟨c, hc⟩ := fold_max_coe (Finset.univ : Finset (Fin 16384)) ⟨0, Finset.mem_univ _⟩ s
  refine ⟨c, ?_⟩
  funext j
  idx_vars j
  pointwise [topT, upR]
  rw [ofBits_bot, hc]
  exact max_eq_right bot_le

/-- The exponentials over their sum. -/
theorem overSumT_up (s : Row) : overSumT (upR fun n => Real.exp (s n)) = up1 (soft s) := by
  funext j
  idx_vars j
  pointwise [overSumT, up1, upR]
  rw [coe_sum, div_coe _ _ (sum_exp_pos s).ne']
  rfl

/-- The reference's weights: taking the greatest similarity off first changes nothing. -/
theorem softT_up (s : Row) : softT (upR s) = up1 (soft s) := by
  obtain ⟨c, hc⟩ := topT_up s
  have e : Host.exp (subf (upR s) (topT (upR s))) = upR fun n => Real.exp (s n - c) := by
    rw [hc]
    funext j
    show Ideal.exp ((s (j 1) : EReal) - (c : EReal)) = _
    rw [← EReal.coe_sub, exp_coe]
    rfl
  rw [softT, e, overSumT_up, soft_sub]

/-- The usage. -/
theorem usageT_up (wu wr ww : Row) : usageT (up1 wu) (up1 wr) (up1 ww) = up1 (usage decay wu wr ww) := by
  funext j
  idx_vars j
  pointwise [usageT, up1]
  rw [ofBits_decay]
  norm_cast

/-- The gate. -/
theorem gateT_up (b : EReal) : gateT (up0 b) = up0 (gate b) := by
  funext j
  pointwise [gateT, up0]
  exact gate_coe b

/-- The write weights: the read weights have mean 1/16384. -/
theorem writeT_up (g : ℝ) (s wl : Row) : writeT (up0 g) (up1 (soft s)) (up1 wl) = up1 (write g wl) := by
  funext j
  idx_vars j
  pointwise [writeT, up0, up1]
  rw [coe_sum, sum_soft, ofBits_size, div_coe _ _ (by norm_num), ← EReal.coe_one, ← EReal.coe_sub]
  simp only [← EReal.coe_mul, ← EReal.coe_add]
  exact congrArg _ (by unfold write; ring)

/-- What is read out. -/
theorem lookT_up (wr : Row) (M : Mem) : lookT (up1 wr) (up2 M) = upK (look wr M) := by
  funext j
  idx_vars j
  pointwise [lookT, up2, up1, upK]
  simp only [← EReal.coe_mul, coe_sum]
  rfl

/-- The key written into the memory. -/
theorem putT_up (M : Mem) (k : Key) (ww : Row) : putT (up2 M) (upK k) (up1 ww) = up2 (put k ww M) := by
  funext j
  idx_vars j
  pointwise [putT, up2, up1, upK]
  rw [Fin.sum_univ_one]
  norm_cast

end Cert.Memory
end
-- ==== Proof.LeastReal.lean ====
module

public import proofs.«01_k».proof.Proof.StepReal
public import Idealize.ShloMosaic.Lib.Routing.OpsPair
public import Idealize.ShloMosaic.Lib.Routing.OpsSet
public import Idealize.ShloMosaic.PureOps.Reduce

/-
  The least cell in the reference: the printed arg-min's fold keeps the smaller value and, of equal values, the smaller number,
  so over a row of real numbers it gives the first cell at which the row is least. Clearing that cell and setting it to one.
-/

@[expose] public section

set_option maxRecDepth 16384

noncomputable section

namespace Cert.Memory

open scoped BigOperators
open Idealize.ShloMosaic Cert.Pre_guards_idle Cert.Pre_guards_idle.Facts

/-- Of two pairs of a value and a number, the first comes no later than the second. -/
def Before (p q : EReal × BitVec 32) : Prop := p.1 ≤ q.1 ∧ (p.1 = q.1 → p.2.toInt ≤ q.2.toInt)

theorem Before.refl (p : EReal × BitVec 32) : Before p p := ⟨le_rfl, fun _ => le_rfl⟩
theorem Before.trans {p q r : EReal × BitVec 32} (h : Before p q) (h' : Before q r) : Before p r := by
  refine ⟨h.1.trans h'.1, fun e => ?_⟩
  have e1 : p.1 = q.1 := le_antisymm h.1 (by rw [e]; exact h'.1)
  exact (h.2 e1).trans (h'.2 (by rw [← e1, e]))

/-- A cell's number, as a word, reads back as the number. -/
theorem toInt_no (n : Fin 16384) : (BitVec.ofNat 32 n.val).toInt = (n.val : ℤ) := by
  have := n.isLt
  rw [BitVec.toInt_eq_toNat_of_lt (by rw [BitVec.toNat_ofNat, Nat.mod_eq_of_lt (by omega)]; omega), BitVec.toNat_ofNat, Nat.mod_eq_of_lt (by omega)]

section
variable [Cert.Pre_guards_idle.Facts]

/-- The arg-min's body answers with one of its two pairs, and that one comes no later than either. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨av, ai⟩ := a
  obtain ⟨bv, bi⟩ := b
  rcases lt_trichotomy av bv with h | h | h
  · have e : reducer_argmin_f32_i32 (F := Ideal) (av, ai) (bv, bi) = (av, ai) := by
      simp [reducer_argmin_f32_i32, Ideal.cmpf_def, Ideal.cmp, h, h.ne, IntOp.ori, IntOp.andi, Scalar.select]
    exact ⟨.inl e, by rw [e]; exact Before.refl _, by rw [e]; exact ⟨h.le, fun q => absurd q h.ne⟩⟩
  · subst h
    by_cases hi : ai.toInt < bi.toInt
    · have e : reducer_argmin_f32_i32 (F := Ideal) (av, ai) (av, bi) = (av, ai) := by
        simp [reducer_argmin_f32_i32, Ideal.cmpf_def, Ideal.cmp, IntOp.ori, IntOp.andi, Scalar.select, IntOp.cmpi, BitVec.slt, hi]
      exact ⟨.inl e, by rw [e]; exact Before.refl _, by rw [e]; exact ⟨le_rfl, fun _ => hi.le⟩⟩
    · have e : reducer_argmin_f32_i32 (F := Ideal) (av, ai) (av, bi) = (av, bi) := by
        simp [reducer_argmin_f32_i32, Ideal.cmpf_def, Ideal.cmp, IntOp.ori, IntOp.andi, Scalar.select, IntOp.cmpi, BitVec.slt, hi]
      exact ⟨.inr e, by rw [e]; exact ⟨le_rfl, fun _ => not_lt.1 hi⟩, by rw [e]; exact Before.refl _⟩
  · have e : reducer_argmin_f32_i32 (F := Ideal) (av, ai) (bv, bi) = (bv, bi) := by
      simp [reducer_argmin_f32_i32, Ideal.cmpf_def, Ideal.cmp, h.ne', not_lt.2 h.le, IntOp.ori, IntOp.andi, Scalar.select]
    exact ⟨.inr e, by rw [e]; exact ⟨h.le, fun q => absurd q h.ne⟩, by rw [e]; exact Before.refl _⟩

theorem foldl_reducer (L : List (EReal × BitVec 32)) (p : EReal × BitVec 32) :
    L.foldl (reducer_argmin_f32_i32 (F := Ideal)) p ∈ p :: L
      ∧ ∀ q ∈ p :: L, Before (L.foldl (reducer_argmin_f32_i32 (F := Ideal)) p) q := by
  induction L generalizing p with
  | nil => simp [Before.refl]
  | cons x L ih =>
    obtain ⟨hm, hb⟩ := ih (reducer_argmin_f32_i32 (F := Ideal) p x)
    obtain ⟨ho, h1, h2⟩ := reducer_spec p x
    rw [List.foldl_cons]
    constructor
    · rcases List.mem_cons.1 hm with h | h
      · rw [h]; rcases ho with e | e <;> simp [e]
      · simp [h]
    · intro q hq
      have h0 := hb _ (List.mem_cons_self)
      rcases List.mem_cons.1 hq with rfl | hq
      · exact h0.trans h1
      rcases List.mem_cons.1 hq with rfl | hq
      · exact h0.trans h2
      · exact hb q (List.mem_cons_of_mem _ hq)

/-- The argmin is the first cell at which the row is least. -/
theorem argmin_up (w : Row) (j : S_.Idx) : fn_argmin (up1 w) j = BitVec.ofNat 32 (least w).val := by
  have e : fn_argmin (up1 w) j = ((Host.argReduceFiber (up1 w) (iotaInDim S16384 32 0) reducesTo_S16384_S_d0 j).foldl
      (reducer_argmin_f32_i32 (F := Ideal)) ((⊤ : EReal), 0#32)).2 := by
    show (Host.argReduce (reducer_argmin_f32_i32 (F := Ideal)) (up1 w) (iotaInDim S16384 32 0) (constant S_ .f32 0x7F800000#32)
      (constantI S_ 32 0#32) reducesTo_S16384_S_d0 h_S_ j).2 = _
    rw [Ideal.argReduce_eq_reduce2, Host.reduce2_eq_foldl_fiber]
    show (List.foldl _ (Ideal.ofBits .f32 0x7F800000#32, 0#32) _).2 = _
    rw [ofBits_top]
  have hmem : ∀ q : EReal × BitVec 32, q ∈ Host.argReduceFiber (up1 w) (iotaInDim S16384 32 0) reducesTo_S16384_S_d0 j
      ↔ ∃ n : Fin 16384, q = (((w n : ℝ) : EReal), BitVec.ofNat 32 n.val) := by
    intro q
    simp only [Host.argReduceFiber, List.mem_map, List.mem_filter, List.mem_finRange, true_and, decide_eq_true_eq]
    constructor
    · rintro ⟨n, -, rfl⟩
      exact ⟨S16384.rowMajor.symm n 0, rfl⟩
    · rintro ⟨n, rfl⟩
      refine ⟨S16384.rowMajor (ix1 n), funext fun a => a.elim0, ?_⟩
      rw [Equiv.symm_apply_apply]
      rfl
  obtain ⟨hm, hb⟩ := foldl_reducer (Host.argReduceFiber (up1 w) (iotaInDim S16384 32 0) reducesTo_S16384_S_d0 j) ((⊤ : EReal), 0#32)
  rw [e]
  generalize List.foldl (reducer_argmin_f32_i32 (F := Ideal)) ((⊤ : EReal), 0#32) _ = r at hm hb ⊢
  have hb' : ∀ n : Fin 16384, Before r (((w n : ℝ) : EReal), BitVec.ofNat 32 n.val) := fun n =>
    hb _ (List.mem_cons_of_mem _ ((hmem _).2 ⟨n, rfl⟩))
  have hr : r ∈ Host.argReduceFiber (up1 w) (iotaInDim S16384 32 0) reducesTo_S16384_S_d0 j := by
    rcases List.mem_cons.1 hm with h | h
    · exact absurd (hb' 0).1 (by rw [h]; exact not_le.2 (EReal.coe_lt_top _))
    · exact h
  obtain ⟨i, rfl⟩ := (hmem _).1 hr
  have : FirstLeast w i := by
    refine ⟨fun n => EReal.coe_le_coe_iff.1 (hb' n).1, fun n hn => ?_⟩
    have := (hb' n).2 (by simp [hn])
    simp only [toInt_no] at this
    exact Fin.le_def.2 (by exact_mod_cast this)
  show BitVec.ofNat 32 i.val = _
  rw [this.eq_least]

/-- The least cell's number. -/
theorem leastT_up (w : Row) : leastT (up1 w) = fun _ => BitVec.ofNat 32 (least w).val := by
  funext j
  pointwise [leastT]
  rw [argmin_up]
  have h : IntOp.cmpi .slt (BitVec.ofNat 32 (least w).val) 0#32 = 0#1 := by
    simp only [IntOp.cmpi, BitVec.slt, toInt_no]
    rw [decide_eq_false (by rw [show (0#32 : BitVec 32).toInt = 0 from rfl]; omega)]
    rfl
  rw [h]
  rfl

theorem lands2 (w : Row) (k : S256.Idx) (d : Fin 256) (n : Fin 16384) :
    scatter_S256x16384_S1_S256_0_1_1_0.resultIdx? k (fun _ => BitVec.ofNat 32 (least w).val) = some (ix2 d n) ↔ (k 0 = d ∧ n = least w) := by
  rw [Routing.resultIdx?_eq_some]
  have h0 : scatter_S256x16384_S1_S256_0_1_1_0.start k (fun _ => BitVec.ofNat 32 (least w).val) 0 = 0 := rfl
  have h1 : scatter_S256x16384_S1_S256_0_1_1_0.start k (fun _ => BitVec.ofNat 32 (least w).val) 1 = ((least w).val : ℤ) := toInt_no _
  have h2 : scatter_S256x16384_S1_S256_0_1_1_0.window k 0 = (k 0).val := rfl
  have h3 : scatter_S256x16384_S1_S256_0_1_1_0.window k 1 = 0 := rfl
  constructor
  · intro h
    have a0 := h 0
    have a1 := h 1
    rw [h0, h2] at a0
    rw [h1, h3] at a1
    refine ⟨Fin.ext ?_, Fin.ext ?_⟩
    · have : ((ix2 d n : S256x16384.Idx) 0).val = d.val := rfl
      omega
    · have : ((ix2 d n : S256x16384.Idx) 1).val = n.val := rfl
      omega
  · rintro ⟨hk, rfl⟩ a
    match a with
    | ⟨0, _⟩ => exact (by rw [← hk]; exact Int.zero_add _)
    | ⟨1, _⟩ => exact (h1 ▸ Int.add_zero _)

/-- The least cell's column is cleared. -/
theorem clearT_up (w : Row) (M : Mem) : clearT (up2 M) (fun _ => BitVec.ofNat 32 (least w).val) = up2 (clear w M) := by
  funext j
  obtain ⟨d, n, rfl⟩ : ∃ (d : Fin 256) (n : Fin 16384), j = ix2 d n := ⟨j 0, j 1, eq_ix2 j⟩
  show Host.scatter _ _ _ _ _ _ = ((clear w M d n : ℝ) : EReal)
  by_cases h : n = least w
  · rw [Routing.scatter_set_hit scatter_S256x16384_S1_S256_0_1_1_0 _ _ _ (ix2 d n) (0 : EReal) (fun k _ => ?_) (ix1 d) ((lands2 w _ d n).2 ⟨rfl, h⟩)]
    · rw [clear, if_pos h]; rfl
    · pointwise
  · rw [Routing.scatter_set_miss _ _ _ _ _ fun k hk => h ((lands2 w k d n).1 hk).2, clear, if_neg h]
    rfl

theorem lands1 (w : Row) (k : S_.Idx) (n : Fin 16384) :
    scatter_S16384_S1_S__n_0_0_0.resultIdx? k (fun _ => BitVec.ofNat 32 (least w).val) = some (ix1 n) ↔ n = least w := by
  rw [Routing.resultIdx?_eq_some]
  have h1 : scatter_S16384_S1_S__n_0_0_0.start k (fun _ => BitVec.ofNat 32 (least w).val) 0 = ((least w).val : ℤ) := toInt_no _
  have h3 : scatter_S16384_S1_S__n_0_0_0.window k 0 = 0 := rfl
  constructor
  · intro h
    have a1 := h 0
    rw [h1, h3] at a1
    have : ((ix1 n : S16384.Idx) 0).val = n.val := rfl
    exact Fin.ext (by omega)
  · rintro rfl a
    match a with
    | ⟨0, _⟩ => exact (h1 ▸ Int.add_zero _)

/-- One at the least cell, zero elsewhere. -/
theorem hotT_up (w : Row) : hotT (F := Ideal) (fun _ => BitVec.ofNat 32 (least w).val) = up1 (hot w) := by
  funext j
  obtain ⟨n, rfl⟩ : ∃ n : Fin 16384, j = ix1 n := ⟨j 0, eq_ix1 j⟩
  show Host.scatter _ _ _ _ _ _ = ((hot w n : ℝ) : EReal)
  by_cases h : n = least w
  · rw [Routing.scatter_set_hit scatter_S16384_S1_S__n_0_0_0 _ _ _ (ix1 n) (1 : EReal) (fun k _ => ?_) ix0 ((lands1 w _ n).2 h)]
    · rw [hot, if_pos h]; rfl
    · pointwise
  · rw [Routing.scatter_set_miss _ _ _ _ _ fun k hk => h ((lands1 w k n).1 hk), hot, if_neg h]
    pointwise
    rfl

/-- One step of the reference on real numbers is the step of the recurrence. -/
theorem stepT_up (M : Mem) (wu ww wl : Row) (k : Key) (b : EReal) (hM : ∀ n, 0 < sq M n) (hk : 0 < dot k k) :
    stepT (up2 M) (up1 wu) (up1 ww) (up1 wl) (upK k) (up0 b)
      = (up2 (next decay (gate b) k ⟨M, wu, ww, wl⟩).M, up1 (next decay (gate b) k ⟨M, wu, ww, wl⟩).wu,
          up1 (next decay (gate b) k ⟨M, wu, ww, wl⟩).ww, up1 (next decay (gate b) k ⟨M, wu, ww, wl⟩).wl,
          upK (result k ⟨M, wu, ww, wl⟩)) := by
  simp only [stepT, simT_up M k hM hk, softT_up, leastT_up, clearT_up, gateT_up, usageT_up, hotT_up]
  simp only [read, writeT_up, lookT_up, putT_up, next, result]
end

end Cert.Memory
end
-- ==== Proof.WalkReal.lean ====
module

public import proofs.«01_k».proof.Proof.WalkTerm
public import proofs.«01_k».proof.Proof.LeastReal
public import proofs.«01_k».proof.Proof.Guarded
public import Idealize.ShloMosaic.Lib.ReduceAll

/-
  The reference's steps over real numbers follow the recurrence, and the precondition says that the keys and the memory are real
  numbers on which the kernel's guards do nothing.
-/

@[expose] public section

set_option maxRecDepth 16384

noncomputable section

namespace Cert.Memory

open scoped BigOperators
open Idealize.ShloMosaic Cert.Pre_guards_idle Cert.Pre_guards_idle.Facts

variable [Cert.Pre_guards_idle.Facts]

/-- The keys as the reference's array. -/
def up81 (K : Fin 8 → Key) : FVec Ideal S8x1x256 .f32 := fun j => ((K (j 0) (j 2) : ℝ) : EReal)

theorem keyT_up (K : Fin 8 → Key) (n : ℕ) (hn : n < 8) : keyT (up81 K) n hn = upK (K ⟨n, hn⟩) := by
  funext j
  obtain ⟨r, d, rfl⟩ : ∃ r d, j = ix2 r d := ⟨j 0, j 1, eq_ix2 j⟩
  pointwise [keyT]
  rfl

/-- The arrays of a state. -/
def upS (s : State) : Carried Ideal := (up2 s.M, up1 s.wu, up1 s.ww, up1 s.wl)

/-- After `n` steps the arrays are the recurrence's state. -/
theorem walk_up (K : Fin 8 → Key) (M : Mem) (b : EReal) (hk : ∀ t, 0 < dot (K t) (K t)) (n : ℕ) (hn : n ≤ 8)
    (hc : ∀ m, m < n → ∀ c, floor ≤ sq (stateAt decay (gate b) K M m).M c) :
    walkT (up81 K) (up2 M) (up0 b) n = upS (stateAt decay (gate b) K M n) := by
  induction n with
  | zero =>
    have h : (broadcastInDim S16384 ![] bcast_S_S16384 (constant S_ .f32 0x00000000#32) : FVec Ideal S16384 .f32) = up1 fun _ => 0 := by
      funext j
      exact Ideal.ofBits_zero_f32
    rw [walkT, h]
    rfl
  | succ n ih =>
    have h : n < 8 := hn
    rw [walkT, dif_pos h, ih h.le fun m hm => hc m (by omega), stateAt_succ _ _ _ _ _ h, keyT_up]
    simp only [upS]
    rw [stepT_up _ _ _ _ _ _ (fun c => floor_pos.trans_le (hc n n.lt_succ_self c)) (hk _)]

theorem of_bit {p : Prop} [Decidable p] (h : BitVec.ofBool (decide p) = 1#1) : p := by
  by_contra hp
  rw [decide_eq_false hp] at h
  exact absurd h (by decide)

/-- What is less than infinity in absolute value is a real number. -/
theorem real_of_fin (x : EReal) (h : Ideal.cmp .olt (max x (-x)) (Ideal.ofBits .f32 0x7F800000#32) = 1#1) : ((x.toReal : ℝ) : EReal) = x := by
  rw [ofBits_top] at h
  have h' : max x (-x) < ⊤ := by
    exact of_bit h
  refine EReal.coe_toReal ?_ ?_
  · rintro rfl
    simp at h'
  · rintro rfl
    simp at h'

/-- Finite keys are real numbers. -/
theorem finKeys_up (K : FVec Ideal S8x1x256 .f32) (j : S_.Idx) (h : finKeys K j = 1#1) :
    K = up81 fun t d => (K (ix3 t (0 : Fin 1) d)).toReal := by
  haveI : Subsingleton S_.Idx := ⟨fun a b => funext fun i => i.elim0⟩
  funext i
  have hi := Host.reduce_andi_all _ _ _ _ _ h i
  obtain ⟨t, r, d, rfl⟩ : ∃ t r d, i = ix3 t r d := ⟨i 0, i 1, i 2, eq_ix3 i⟩
  obtain rfl : r = 0 := Subsingleton.elim _ _
  exact (real_of_fin _ hi).symm

/-- A finite memory is real numbers. -/
theorem finMem_up (M : FVec Ideal S256x16384 .f32) (j : S_.Idx) (h : finMem M j = 1#1) :
    M = up2 fun d n => (M (ix2 d n)).toReal := by
  haveI : Subsingleton S_.Idx := ⟨fun a b => funext fun i => i.elim0⟩
  funext i
  have hi := Host.reduce_andi_all _ _ _ _ _ h i
  obtain ⟨t, r, rfl⟩ : ∃ t r, i = ix2 t r := ⟨i 0, i 1, eq_ix2 i⟩
  exact (real_of_fin _ hi).symm

/-- The keys have positive square norms. -/
theorem keysT_up (K : Fin 8 → Key) (j : S_.Idx) (h : keysT (up81 K) j = 1#1) (t : Fin 8) : 0 < dot (K t) (K t) := by
  haveI : Subsingleton S_.Idx := ⟨fun a b => funext fun i => i.elim0⟩
  have hi := Host.reduce_andi_all _ _ _ _ _ h (ix2 t (0 : Fin 1))
  revert hi
  pointwise
  rw [show ∑ x, up81 K (ix3 t (0 : Fin 1) x) * up81 K (ix3 t (0 : Fin 1) x) = ((dot (K t) (K t) : ℝ) : EReal) from ?_]
  · exact fun hi => EReal.coe_lt_coe_iff.1 (of_bit hi)
  · show ∑ x, ((K t x : ℝ) : EReal) * ((K t x : ℝ) : EReal) = _
    simp only [← EReal.coe_mul, coe_sum]
    rfl

/-- The columns' square norms are at least the floor. -/
theorem colsT_up (M : Mem) (j : S_.Idx) (h : colsT (up2 M) j = 1#1) (c : Fin 16384) : floor ≤ sq M c := by
  haveI : Subsingleton S_.Idx := ⟨fun a b => funext fun i => i.elim0⟩
  have hi := Host.reduce_andi_all _ _ _ _ _ h (ix1 c)
  revert hi
  pointwise
  rw [show ∑ x, up2 M (ix2 x c) * up2 M (ix2 x c) = ((sq M c : ℝ) : EReal) from ?_, ofBits_floor]
  · exact fun hi => EReal.coe_le_coe_iff.1 (of_bit hi)
  · show ∑ x, ((M x c : ℝ) : EReal) * ((M x c : ℝ) : EReal) = _
    simp only [← EReal.coe_mul, coe_sum]
    rfl

/-- The precondition: real inputs on which the kernel's guards do nothing. -/
theorem pre_up (K V : FVec Ideal S8x1x256 .f32) (M N : FVec Ideal S256x16384 .f32) (b : FVec Ideal S_ .f32)
    (h : fn K V M N b = fun _ => 1#1) :
    ∃ (K' : Fin 8 → Key) (M' : Mem) (b' : EReal), K = up81 K' ∧ M = up2 M' ∧ b = up0 b' ∧ Guarded K' M' (gate b') := by
  rw [fn_eq] at h
  have hj := congrFun h (Shape.Idx.first (by decide))
  generalize (Shape.Idx.first _ : S_.Idx) = j at hj
  have two : ∀ x y : IVec S_ 1, andi x y j = 1#1 → x j = 1#1 ∧ y j = 1#1 := fun x y => IntOp.andi_eq_one.1
  have low : ∀ n p, colsUpTo p K M b n j = 1#1 → p j = 1#1 ∧ ∀ m, m < n → colsT (walkT K M b m).1 j = 1#1 := by
    intro n p
    induction n with
    | zero => exact fun e => ⟨e, fun m hm => absurd hm m.not_lt_zero⟩
    | succ n ih =>
      intro e
      obtain ⟨e1, e2⟩ := two _ _ e
      obtain ⟨e3, e4⟩ := ih e1
      exact ⟨e3, fun m hm => (Nat.lt_succ_iff_lt_or_eq.1 hm).elim (e4 m) fun q => q ▸ e2⟩
  obtain ⟨hp, hc⟩ := low _ _ hj
  obtain ⟨hp, hkey⟩ := two _ _ hp
  obtain ⟨hK, hM⟩ := two _ _ hp
  obtain hK' := finKeys_up K j hK
  obtain hM' := finMem_up M j hM
  obtain hb' : b = up0 (b j) := funext fun i => congrArg b (funext fun i => i.elim0)
  generalize (fun t d => (K (ix3 t (0 : Fin 1) d)).toReal) = K' at hK'
  generalize (fun d n => (M (ix2 d n)).toReal) = M' at hM'
  generalize b j = b' at hb'
  subst hK' hM' hb'
  have hk := keysT_up K' j hkey
  refine ⟨K', M', b', rfl, rfl, rfl, hk, ?_⟩
  intro n
  induction n using Nat.strong_induction_on with
  | _ n ih =>
    intro hn
    have e := hc n hn
    rw [walk_up K' M' b' hk n hn.le fun m hm => ih m hm (by omega)] at e
    exact colsT_up _ j e

end Cert.Memory
end
-- ==== Proof.KernelValue.lean ====
module

public import proofs.«01_k».proof.Proof.TileReal
public import proofs.«01_k».proof.Proof.WalkReal

/-
  The kernel's result from real inputs on which its guards do nothing.
-/

@[expose] public section

set_option maxRecDepth 16384

noncomputable section

namespace Cert.KernelIdeal.Hand

open Idealize.ShloMosaic Idealize.ShloMosaic.TcCoe Idealize.ShloMosaic.StableHlo Idealize.SL.Sem Cert.KernelIdeal Cert.KernelIdeal.Gen Cert.Memory

section
variable {F : FTy → Type} [FloatOps F] (m : (ℓ : Loc nD τ sig) → Buf (Elt F) ℓ) (c : Dev nD)

/-- The keys as the launch sees them. -/
theorem kArr_eq : kArr m c = shapeCast S8x256 (m ((c.tc : Thread nD τ).loc main_arg0)) shapeCasts_S8x1x256_S8x256 := by
  unfold kArr V V0
  simp only [hostOps0, List.flatten_cons, List.flatten_nil, List.append_nil, List.cons_append, List.nil_append]
  after_results_simp
  rfl

/-- The gate's argument as the launch sees it. -/
theorem bArr_eq : bArr m c = shapeCast S1x1 (m ((c.tc : Thread nD τ).loc main_arg4)) shapeCasts_S_S1x1 := by
  unfold bArr V V0
  simp only [hostOps0, List.flatten_cons, List.flatten_nil, List.append_nil, List.cons_append, List.nil_append]
  after_results_simp
  rfl
end

variable (m : (ℓ : Loc nD τ sig) → Buf (Elt Ideal) ℓ) (c : Dev nD) (K : Fin 8 → Key) (M : Mem) (b : EReal)

/-- Row `t` of the kernel's result is what the recurrence reads out at step `t`. -/
theorem resultOf_up (hg : Guarded K M (gate b)) (h0 : m ((c.tc : Thread nD τ).loc main_arg0) = up81 K)
    (h2 : m ((c.tc : Thread nD τ).loc main_arg2) = up2 M) (h4 : m ((c.tc : Thread nD τ).loc main_arg4) = up0 b) (t : Fin 8) (d : Fin 256) :
    resultOf m c (ix3 t (0 : Fin 1) d) = ((result (K t) (stateAt decay (gate b) K M t.val) d : ℝ) : EReal) := by
  have hk : kArr m c = upK8 K := by
    rw [kArr_eq, h0]
    funext j
    obtain ⟨r, d, rfl⟩ : ∃ r d, j = ix2 r d := ⟨j 0, j 1, eq_ix2 j⟩
    pointwise
    rfl
  have hb : bArr m c = fun _ => b := by
    rw [bArr_eq, h4]
    rfl
  have hm : mArr m c = upM M := (V_main_arg2 m c).trans h2
  rw [← kernelOut_up b hg _ hb t d, ← hk, ← hm, resultOf]
  pointwise

end Cert.KernelIdeal.Hand
end
-- ==== Proof.ReferenceStep.lean ====
module

public import proofs.«01_k».proof.Proof.ReferenceRun
public import proofs.«01_k».proof.Proof.WalkTerm
public import Idealize.ShloMosaic.Lib.DynamicIndex
public import Idealize.ShloMosaic.Lib.WordCmp
public import Idealize.ShloMosaic.Lib.Pointwise
public meta import Idealize.ShloMosaic.Lib.Pointwise

/-
  What each stretch of a trip leaves in the buffers the later ones read: the stages of the reference's step.
-/

@[expose] public section

set_option maxRecDepth 16384

noncomputable section

namespace Cert.ReferenceIdeal.Hand

open Cert.ReferenceIdeal Cert.Memory
open Cert.ReferenceIdeal.Facts₀ Cert.ReferenceIdeal.Facts
open Idealize.ShloMosaic Idealize.ShloMosaic.TcCoe Idealize.ShloMosaic.StableHlo

variable [Cert.ReferenceIdeal.Facts] [Cert.Pre_guards_idle.Facts] {F : FTy → Type} [FloatOps F] (V : Valuation τ sig (Elt F))

theorem cos_read : after cosOps V (Proc.devRef .tc main_while0b_v9)
    = simT (V (Proc.devRef .tc main_v2_3)) (V (Proc.devRef .tc main_while0b_v3)) := by
  after_results_simp
  rfl

theorem soft_read : after softOps V (Proc.devRef .tc main_while0b_v21) = softT (V (Proc.devRef .tc main_while0b_v9)) := by
  after_results_simp
  rfl

theorem drop_read : after dropOps V (Proc.devRef .tc main_while0b_v28)
    = clearT (V (Proc.devRef .tc main_v2_3)) (leastT (V (Proc.devRef .tc main_v2_4))) := by
  after_results_simp
  rfl

theorem use_read : after useOps V (Proc.devRef .tc main_while0b_v32)
    = usageT (V (Proc.devRef .tc main_v2_4)) (V (Proc.devRef .tc main_while0b_v21)) (V (Proc.devRef .tc main_v2_5)) := by
  after_results_simp
  rfl

theorem write_read : after writeOps V (Proc.devRef .tc main_while0b_v44)
    = writeT (gateT (V (Proc.devRef .tc main_v2_1))) (V (Proc.devRef .tc main_while0b_v21)) (V (Proc.devRef .tc main_v2_6)) := by
  after_results_simp
  rfl

theorem least_read : after leastOps V (Proc.devRef .tc main_while0b_v51)
    = hotT (leastT (V (Proc.devRef .tc main_while0b_v32))) := by
  after_results_simp
  rfl

theorem look_read : after memOps V (Proc.devRef .tc main_while0b_v54)
    = lookT (V (Proc.devRef .tc main_while0b_v21)) (V (Proc.devRef .tc main_while0b_v28)) := by
  after_results_simp
  rfl

theorem put_read : after memOps V (Proc.devRef .tc main_while0b_v58)
    = putT (V (Proc.devRef .tc main_while0b_v28)) (V (Proc.devRef .tc main_while0b_v3)) (V (Proc.devRef .tc main_while0b_v44)) := by
  after_results_simp
  rfl

theorem toInt_count (n : ℕ) (hn : n < 8) : BitVec.toInt (Scf.iv 0#32 1#32 n) = (n : ℤ) := by
  interval_cases n <;> rfl

theorem slices_zero : S8x1x256.Slices (fun _ => 0) S1x1x256 := by decide

/-- The key row is the key at the trip's number. -/
theorem key_read (n : ℕ) (hn : n < 8) (hi : V (Proc.devRef .tc main_v2_2) = fun _ => Scf.iv 0#32 1#32 n) :
    after keyOps V (Proc.devRef .tc main_while0b_v3)
      = keyT (V (Proc.devRef .tc main_v2_0)) n hn := by
  after_results_simp
  refine congrArg (fun x => shapeCast S1x256 x shapeCasts_S1x1x256_S1x256)
    (Host.dynamicSlice_eq_extractStridedSlice S1x1x256 (V (Proc.devRef .tc main_v2_0)) _ ![n, 0, 0] slices_zero (slices_key n hn) ?_)
  intro a
  fin_cases a
  · refine Eq.trans (congrArg BitVec.toInt (?_ : _ = V (Proc.devRef .tc main_v2_2) (Shape.Idx.first (by decide)))) ?_
    · rfl
    · rw [hi]
      exact toInt_count n hn
  · rfl
  · rfl

/-- The row is stored at the trip's number. -/
theorem out_store (n : ℕ) (hn : n < 8) (hi : V (Proc.devRef .tc main_v2_2) = fun _ => Scf.iv 0#32 1#32 n) :
    after outOps V (Proc.devRef .tc main_while0b_v59)
      = updateSlice (s := S8x1x256) (u := S1x1x256) (V (Proc.devRef .tc main_v2_7))
          (broadcastInDim S1x1x256 ![1, 2] bcast_S1x256_S1x1x256_1_2 (V (Proc.devRef .tc main_while0b_v54))) ![n, 0, 0] (slices_key n hn) := by
  after_results_simp
  refine WordCmp.dynamicUpdateSlice_eq_update (s := S8x1x256) (u := S1x1x256) (V (Proc.devRef .tc main_v2_7))
    (broadcastInDim S1x1x256 ![1, 2] bcast_S1x256_S1x1x256_1_2 (V (Proc.devRef .tc main_while0b_v54))) _ slices_zero ![n, 0, 0] (slices_key n hn) ?_
  intro a
  fin_cases a
  · refine Eq.trans (congrArg BitVec.toInt (?_ : _ = V (Proc.devRef .tc main_v2_2) (Shape.Idx.first (by decide)))) ?_
    · rfl
    · rw [hi]
      exact toInt_count n hn
  · rfl
  · rfl

/-- The stored row is the one at the trip's number; the other rows stay. -/
theorem out_row (n : ℕ) (hn : n < 8) (x : Vec F S8x1x256 .f32) (u : Vec F S1x256 .f32) (r : Fin 8) (d : Fin 256) :
    updateSlice (s := S8x1x256) (u := S1x1x256) x (broadcastInDim S1x1x256 ![1, 2] bcast_S1x256_S1x1x256_1_2 u) ![n, 0, 0] (slices_key n hn)
      (ix3 r (0 : Fin 1) d) = if r.val = n then u (ix2 (0 : Fin 1) d) else x (ix3 r (0 : Fin 1) d) := by
  by_cases h : r.val = n
  · rw [if_pos h]
    refine (dif_pos fun a => ?_).trans ?_
    · match a with
      | ⟨0, _⟩ => exact (show n ≤ r.val ∧ r.val < n + 1 by omega)
      | ⟨1, _⟩ => exact (show 0 ≤ 0 ∧ 0 < 0 + 1 by omega)
      | ⟨2, _⟩ => exact (show 0 ≤ d.val ∧ d.val < 0 + 256 from ⟨d.val.zero_le, by have := d.isLt; omega⟩)
    · refine congrArg u (funext fun a => ?_)
      match a with
      | ⟨0, _⟩ => rfl
      | ⟨1, _⟩ => rfl
  · rw [if_neg h]
    refine dif_neg fun hin => h ?_
    have h0 : n ≤ r.val ∧ r.val < n + 1 := hin 0
    omega

end Cert.ReferenceIdeal.Hand
end
-- ==== Proof.ReferenceTrip.lean ====
module

public import proofs.«01_k».proof.Proof.ReferenceStep

/-
  One trip of the reference's loop: the carried values at its end are the reference's step of those at its start.
-/

@[expose] public section

set_option maxRecDepth 16384

noncomputable section

namespace Cert.ReferenceIdeal.Hand

open Cert.ReferenceIdeal Cert.Memory
open Idealize.ShloMosaic Idealize.ShloMosaic.TcCoe Idealize.ShloMosaic.StableHlo

variable [Cert.ReferenceIdeal.Facts] [Cert.Pre_guards_idle.Facts] {F : FTy → Type} [FloatOps F] (V : Valuation τ sig (Elt F))

section
variable {r : Ref sig .tc}
theorem past_cond (h : r ∉ condOps_W) : after condOps V (Proc.devRef .tc r) = V (Proc.devRef .tc r) := after_of_writes_sub _ _ condOps_writes h
theorem past_key (h : r ∉ keyOps_W) : after keyOps V (Proc.devRef .tc r) = V (Proc.devRef .tc r) := after_of_writes_sub _ _ keyOps_writes h
theorem past_cos (h : r ∉ cosOps_W) : after cosOps V (Proc.devRef .tc r) = V (Proc.devRef .tc r) := after_of_writes_sub _ _ cosOps_writes h
theorem past_soft (h : r ∉ softOps_W) : after softOps V (Proc.devRef .tc r) = V (Proc.devRef .tc r) := after_of_writes_sub _ _ softOps_writes h
theorem past_drop (h : r ∉ dropOps_W) : after dropOps V (Proc.devRef .tc r) = V (Proc.devRef .tc r) := after_of_writes_sub _ _ dropOps_writes h
theorem past_use (h : r ∉ useOps_W) : after useOps V (Proc.devRef .tc r) = V (Proc.devRef .tc r) := after_of_writes_sub _ _ useOps_writes h
theorem past_write (h : r ∉ writeOps_W) : after writeOps V (Proc.devRef .tc r) = V (Proc.devRef .tc r) := after_of_writes_sub _ _ writeOps_writes h
theorem past_least (h : r ∉ leastOps_W) : after leastOps V (Proc.devRef .tc r) = V (Proc.devRef .tc r) := after_of_writes_sub _ _ leastOps_writes h
theorem past_mem (h : r ∉ memOps_W) : after memOps V (Proc.devRef .tc r) = V (Proc.devRef .tc r) := after_of_writes_sub _ _ memOps_writes h
theorem past_out (h : r ∉ outOps_W) : after outOps V (Proc.devRef .tc r) = V (Proc.devRef .tc r) := after_of_writes_sub _ _ outOps_writes h
end

/-- The contents once the read weights are computed. -/
abbrev weighed : Valuation τ sig (Elt F) := after softOps (after cosOps (after keyOps (after condOps V)))
/-- The contents once the least-used indicator is computed. -/
abbrev marked : Valuation τ sig (Elt F) := after leastOps (after writeOps (after useOps (after dropOps (weighed V))))

variable (k : FVec F S1x256 .f32) (hk : after keyOps (after condOps V) (Proc.devRef .tc main_while0b_v3) = k)
include hk

theorem weighed_weights : weighed V (Proc.devRef .tc main_while0b_v21) = softT (simT (V (Proc.devRef .tc main_v2_3)) k) := by
  unfold weighed
  rw [soft_read, cos_read, hk, past_key _ (by decide), past_cond _ (by decide)]

omit hk in
theorem weighed_kept (r : Ref sig .tc) (h1 : r ∉ condOps_W) (h2 : r ∉ keyOps_W) (h3 : r ∉ cosOps_W) (h4 : r ∉ softOps_W) :
    weighed V (Proc.devRef .tc r) = V (Proc.devRef .tc r) := by
  unfold weighed
  rw [past_soft _ h4, past_cos _ h3, past_key _ h2, past_cond _ h1]

theorem marked_weights : marked V (Proc.devRef .tc main_while0b_v21) = softT (simT (V (Proc.devRef .tc main_v2_3)) k) := by
  unfold marked
  rw [past_least _ (by decide), past_write _ (by decide), past_use _ (by decide), past_drop _ (by decide), weighed_weights V k hk]

theorem marked_key : marked V (Proc.devRef .tc main_while0b_v3) = k := by
  unfold marked weighed
  rw [past_least _ (by decide), past_write _ (by decide), past_use _ (by decide), past_drop _ (by decide), past_soft _ (by decide),
    past_cos _ (by decide), hk]

omit hk in
theorem marked_clear : marked V (Proc.devRef .tc main_while0b_v28)
    = clearT (V (Proc.devRef .tc main_v2_3)) (leastT (V (Proc.devRef .tc main_v2_4))) := by
  unfold marked
  rw [past_least _ (by decide), past_write _ (by decide), past_use _ (by decide), drop_read,
    weighed_kept V main_v2_3 (by decide) (by decide) (by decide) (by decide),
    weighed_kept V main_v2_4 (by decide) (by decide) (by decide) (by decide)]

theorem used : after useOps (after dropOps (weighed V)) (Proc.devRef .tc main_while0b_v32)
    = usageT (V (Proc.devRef .tc main_v2_4)) (softT (simT (V (Proc.devRef .tc main_v2_3)) k)) (V (Proc.devRef .tc main_v2_5)) := by
  rw [use_read, past_drop _ (by decide), past_drop _ (by decide), past_drop _ (by decide), weighed_weights V k hk,
    weighed_kept V main_v2_4 (by decide) (by decide) (by decide) (by decide),
    weighed_kept V main_v2_5 (by decide) (by decide) (by decide) (by decide)]

theorem marked_usage : marked V (Proc.devRef .tc main_while0b_v32)
    = usageT (V (Proc.devRef .tc main_v2_4)) (softT (simT (V (Proc.devRef .tc main_v2_3)) k)) (V (Proc.devRef .tc main_v2_5)) := by
  unfold marked
  rw [past_least _ (by decide), past_write _ (by decide), used V k hk]

theorem marked_write : marked V (Proc.devRef .tc main_while0b_v44)
    = writeT (gateT (V (Proc.devRef .tc main_v2_1))) (softT (simT (V (Proc.devRef .tc main_v2_3)) k)) (V (Proc.devRef .tc main_v2_6)) := by
  unfold marked
  rw [past_least _ (by decide), write_read, past_use _ (by decide), past_use _ (by decide), past_use _ (by decide),
    past_drop _ (by decide), past_drop _ (by decide), past_drop _ (by decide), weighed_weights V k hk,
    weighed_kept V main_v2_1 (by decide) (by decide) (by decide) (by decide),
    weighed_kept V main_v2_6 (by decide) (by decide) (by decide) (by decide)]

theorem marked_hot : marked V (Proc.devRef .tc main_while0b_v51)
    = hotT (leastT (usageT (V (Proc.devRef .tc main_v2_4)) (softT (simT (V (Proc.devRef .tc main_v2_3)) k)) (V (Proc.devRef .tc main_v2_5)))) := by
  unfold marked
  rw [least_read, past_write _ (by decide), used V k hk]

/-- The step of the carried values. -/
abbrev stepOf : FVec F S256x16384 .f32 × FVec F S16384 .f32 × FVec F S16384 .f32 × FVec F S16384 .f32 × FVec F S1x256 .f32 :=
  stepT (V (Proc.devRef .tc main_v2_3)) (V (Proc.devRef .tc main_v2_4)) (V (Proc.devRef .tc main_v2_5)) (V (Proc.devRef .tc main_v2_6)) k
    (V (Proc.devRef .tc main_v2_1))

theorem mem_row : after memOps (marked V) (Proc.devRef .tc main_while0b_v54) = (stepOf V k).2.2.2.2 := by
  rw [look_read, marked_weights V k hk, marked_clear]
  rfl

theorem out_mem : after outOps (after memOps (marked V)) (Proc.devRef .tc main_while0b_v58) = (stepOf V k).1 := by
  rw [past_out _ (by decide), put_read, marked_key V k hk, marked_clear, marked_write V k hk]
  rfl

theorem out_usage : after outOps (after memOps (marked V)) (Proc.devRef .tc main_while0b_v32) = (stepOf V k).2.1 := by
  rw [past_out _ (by decide), past_mem _ (by decide), marked_usage V k hk]
  rfl

theorem out_write : after outOps (after memOps (marked V)) (Proc.devRef .tc main_while0b_v44) = (stepOf V k).2.2.1 := by
  rw [past_out _ (by decide), past_mem _ (by decide), marked_write V k hk]
  rfl

theorem out_hot : after outOps (after memOps (marked V)) (Proc.devRef .tc main_while0b_v51) = (stepOf V k).2.2.2.1 := by
  rw [past_out _ (by decide), past_mem _ (by decide), marked_hot V k hk]
  simp only [stepT]

end Cert.ReferenceIdeal.Hand
end
-- ==== Proof.ReferenceValue.lean ====
module

public import proofs.«01_k».proof.Proof.ReferenceTrip
public import proofs.«01_k».proof.Proof.WalkReal

/-
  The reference's carried values are its steps' one after another, and its result from real inputs on which the kernel's guards
  do nothing is what the recurrence reads out.
-/

@[expose] public section

set_option maxRecDepth 16384

noncomputable section

namespace Cert.ReferenceIdeal.Hand

open Cert.ReferenceIdeal Cert.Memory
open Idealize.ShloMosaic Idealize.ShloMosaic.TcCoe Idealize.ShloMosaic.StableHlo Idealize.SL.Sem

variable [Cert.ReferenceIdeal.Facts] [Cert.Pre_guards_idle.Facts]

section
variable {F : FTy → Type} [FloatOps F] (m : (ℓ : Loc nD τ sig) → Buf (Elt F) ℓ) (c : Dev nD)

/-- The reference's steps from a launch's arguments. -/
abbrev walk (n : ℕ) : Carried F :=
  walkT (m ((c.tc : Thread nD τ).loc main_arg0)) (m ((c.tc : Thread nD τ).loc main_arg2)) (m ((c.tc : Thread nD τ).loc main_arg4)) n

/-- The key row of trip `n`. -/
theorem trip_key (n : ℕ) (hn : n < 8) : after keyOps (after condOps (trip m n c)) (Proc.devRef .tc main_while0b_v3)
    = keyT (m ((c.tc : Thread nD τ).loc main_arg0)) n hn := by
  rw [key_read _ n hn ((past_cond _ (by decide)).trans (trip_counter m c n)), past_cond _ (by decide),
    trip_kept m main_v2_0 (by decide) (by decide) c n, trip_zero]
  after_results_simp
  rfl

/-- The gate's argument stays as it was. -/
theorem trip_gate (n : ℕ) : trip m n c (Proc.devRef .tc main_v2_1) = m ((c.tc : Thread nD τ).loc main_arg4) := by
  rw [trip_kept m main_v2_1 (by decide) (by decide) c n, trip_zero]
  after_results_simp
  rfl

/-- The carried arrays after `n` trips. -/
theorem trip_walk (n : ℕ) (hn : n ≤ 8) :
    trip m n c (Proc.devRef .tc main_v2_3) = (walk m c n).1 ∧ trip m n c (Proc.devRef .tc main_v2_4) = (walk m c n).2.1
      ∧ trip m n c (Proc.devRef .tc main_v2_5) = (walk m c n).2.2.1 ∧ trip m n c (Proc.devRef .tc main_v2_6) = (walk m c n).2.2.2 := by
  induction n with
  | zero =>
    rw [trip_zero]
    refine ⟨?_, ?_, ?_, ?_⟩ <;>
    · after_results_simp
      rfl
  | succ n ih =>
    have h : n < 8 := hn
    obtain ⟨h3, h4, h5, h6⟩ := ih h.le
    have hk := trip_key m c n h
    have hs : stepOf (trip m n c) (keyT (m ((c.tc : Thread nD τ).loc main_arg0)) n h)
        = stepT (walk m c n).1 (walk m c n).2.1 (walk m c n).2.2.1 (walk m c n).2.2.2 (keyT (m ((c.tc : Thread nD τ).loc main_arg0)) n h)
            (m ((c.tc : Thread nD τ).loc main_arg4)) := by
      rw [stepOf, h3, h4, h5, h6, trip_gate]
    have e3 := out_mem (trip m n c) _ hk
    have e4 := out_usage (trip m n c) _ hk
    have e5 := out_write (trip m n c) _ hk
    have e6 := out_hot (trip m n c) _ hk
    rw [hs] at e3 e4 e5 e6
    rw [trip_succ, walk, walkT, dif_pos h]
    rw [← e3, ← e4, ← e5, ← e6]
    generalize after outOps _ = X
    refine ⟨?_, ?_, ?_, ?_⟩ <;>
    · after_results_simp
      try rfl

/-- The stored rows after trip `n`. -/
theorem trip_out (n : ℕ) (hn : n < 8) (r : Fin 8) (d : Fin 256) :
    trip m (n + 1) c (Proc.devRef .tc main_v2_7) (ix3 r (0 : Fin 1) d)
      = if r.val = n then (stepT (walk m c n).1 (walk m c n).2.1 (walk m c n).2.2.1 (walk m c n).2.2.2
          (keyT (m ((c.tc : Thread nD τ).loc main_arg0)) n hn) (m ((c.tc : Thread nD τ).loc main_arg4))).2.2.2.2 (ix2 (0 : Fin 1) d)
        else trip m n c (Proc.devRef .tc main_v2_7) (ix3 r (0 : Fin 1) d) := by
  obtain ⟨h3, h4, h5, h6⟩ := trip_walk m c n hn.le
  have hk := trip_key m c n hn
  have hs : stepOf (trip m n c) (keyT (m ((c.tc : Thread nD τ).loc main_arg0)) n hn)
      = stepT (walk m c n).1 (walk m c n).2.1 (walk m c n).2.2.1 (walk m c n).2.2.2 (keyT (m ((c.tc : Thread nD τ).loc main_arg0)) n hn)
          (m ((c.tc : Thread nD τ).loc main_arg4)) := by
    rw [stepOf, h3, h4, h5, h6, trip_gate]
  have kept' : ∀ b : Ref sig .tc, b ∉ condOps_W ++ keyOps_W ++ cosOps_W ++ softOps_W ++ dropOps_W ++ useOps_W ++ writeOps_W ++ leastOps_W ++ memOps_W →
      after memOps (marked (trip m n c)) (Proc.devRef .tc b) = trip m n c (Proc.devRef .tc b) := fun b h => by
    simp only [List.mem_append, not_or] at h
    obtain ⟨⟨⟨⟨⟨⟨⟨⟨h0, h1⟩, h2⟩, h3⟩, h4⟩, h5⟩, h6⟩, h7⟩, h8⟩ := h
    unfold marked
    rw [past_mem _ h8, past_least _ h7, past_write _ h6, past_use _ h5, past_drop _ h4, weighed_kept _ b h0 h1 h2 h3]
  rw [← hs, ← mem_row (trip m n c) _ hk, ← kept' main_v2_7 (by decide),
    ← out_row n hn (after memOps (marked (trip m n c)) (Proc.devRef .tc main_v2_7)) (after memOps (marked (trip m n c)) (Proc.devRef .tc main_while0b_v54)) r d,
    ← out_store (after memOps (marked (trip m n c))) n hn ((kept' main_v2_2 (by decide)).trans (trip_counter m c n)), trip_succ]
  generalize after outOps _ = X
  after_results_simp
  rfl
end

variable (m : (ℓ : Loc nD τ sig) → Buf (Elt Ideal) ℓ) (c : Dev nD) (K : Fin 8 → Key) (M : Mem) (b : EReal)

/-- Row `t` of the reference's result is what the recurrence reads out at step `t`. -/
theorem outOf_up (hg : Guarded K M (gate b)) (h0 : m ((c.tc : Thread nD τ).loc main_arg0) = up81 K)
    (h2 : m ((c.tc : Thread nD τ).loc main_arg2) = up2 M) (h4 : m ((c.tc : Thread nD τ).loc main_arg4) = up0 b) (t : Fin 8) (d : Fin 256) :
    outOf m c (ix3 t (0 : Fin 1) d) = ((result (K t) (stateAt decay (gate b) K M t.val) d : ℝ) : EReal) := by
  have h : ∀ n, t.val < n → n ≤ 8 → trip m n c (Proc.devRef .tc main_v2_7) (ix3 t (0 : Fin 1) d)
      = ((result (K t) (stateAt decay (gate b) K M t.val) d : ℝ) : EReal) := by
    intro n
    induction n with
    | zero => exact fun q => absurd q (Nat.not_lt_zero _)
    | succ n ih =>
      intro ht hn
      rw [trip_out m c n hn t d]
      by_cases e : t.val = n
      · subst e
        rw [if_pos rfl, walk, h0, h2, h4, walk_up K M b hg.key t.val t.isLt.le fun m hm => hg.col m (hm.trans t.isLt), keyT_up]
        simp only [upS]
        rw [stepT_up _ _ _ _ _ _ (fun c => floor_pos.trans_le (hg.col t.val t.isLt c)) (hg.key _)]
        rfl
      · rw [if_neg e]
        exact ih (by omega) (by omega)
  exact h 8 t.isLt le_rfl

end Cert.ReferenceIdeal.Hand
end
-- ==== Proof.Algebraic.lean ====
module

public import proofs.«01_k».proof.Defs
public import proofs.«01_k».proof.Proof.KernelValue
public import proofs.«01_k».proof.Proof.ReferenceValue
public import proofs.«01_k».proof.Proof.Gen.ReferenceIdeal

/-
  The kernel and the reference end with equal results, from inputs on which the kernel's guards do nothing.
-/

@[expose] public section

set_option maxRecDepth 16384

noncomputable section

namespace Cert.Memory

open Idealize.ShloMosaic Idealize.ShloMosaic.TcCoe Idealize.SL.Sem

/-- The side conditions of the precondition's operations. -/
theorem preFacts : Cert.Pre_guards_idle.Facts := by
  constructor <;> decide

/-- From inputs on which the guards do nothing, both programs end with the real recurrence's results. -/
theorem algebraic : Cert.algebraic_KernelIdeal_ReferenceIdeal_pre_guards_idle (hKernelIdeal := Cert.KernelIdeal.Gen.facts)
    (hReferenceIdeal := Cert.ReferenceIdeal.Gen.facts) (hPre_guards_idle := preFacts) := by
  haveI := preFacts
  intro m g m' g' hpre hargs
  refine ⟨fun c => Cert.KernelIdeal.Hand.resultOf m c,
    (θ_run Cert.KernelIdeal.defs _ _).mono (fun r h c => ?_) (Cert.KernelIdeal.Hand.run_value m g),
    (θ_run Cert.ReferenceIdeal.defs _ _).mono (fun r h c => ?_) (Cert.ReferenceIdeal.Hand.run_value m' g')⟩
  · obtain ⟨h0, h1, h2, h3, h4, hv⟩ := h.1 c
    exact ⟨hv, h0, h1, h2, h3, h4⟩
  · obtain ⟨hv, hr⟩ := h c
    refine ⟨hv.trans ?_, hr⟩
    obtain ⟨K, M, b, e0, e2, e4, hg⟩ := pre_up _ _ _ _ _ (hpre c)
    obtain ⟨a0, -, a2, -, a4⟩ := hargs c
    obtain h : ∀ j, Cert.ReferenceIdeal.Hand.outOf m' c j = Cert.KernelIdeal.Hand.resultOf m c j := fun j => by
      obtain ⟨t, r, d, rfl⟩ : ∃ t r d, j = ix3 t r d := ⟨j 0, j 1, j 2, eq_ix3 j⟩
      obtain rfl : r = 0 := Subsingleton.elim _ _
      exact (Cert.ReferenceIdeal.Hand.outOf_up m' c K M b hg (a0.trans e0) (a2.trans e2) (a4.trans e4) t d).trans
        (Cert.KernelIdeal.Hand.resultOf_up m c K M b hg e0 e2 e4 t d).symm
    exact funext h

end Cert.Memory
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelBits
public import proofs.«01_k».proof.Proof.ReferenceRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims, from the frames and the two values. -/
theorem claim : Cert.Claim := ⟨Cert.Kernel.Gen.facts, Cert.KernelIdeal.Gen.facts, Cert.ReferenceIdeal.Gen.facts, Cert.Memory.preFacts,
  fun m g _ => Cert.Kernel.Hand.frame m g, fun m g _ => Cert.KernelIdeal.Hand.frame m g, fun m g _ => Cert.KernelIdeal.Hand.frame m g,
  fun m g _ => Cert.ReferenceIdeal.Hand.frame m g, fun m g _ => Cert.ReferenceIdeal.Hand.frame m g, trivial, Cert.Memory.algebraic⟩

end Cert.Proof

end
